-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_action_nonneg [hPre_action_nonneg : Cert.Pre_action_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_action_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_action_nonneg [hPre_action_nonneg : Cert.Pre_action_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_action_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_action_nonneg [hKernelIdeal : Cert.KernelIdeal.Facts] [hPre_action_nonneg : Cert.Pre_action_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_action_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_action_nonneg [hReferenceIdeal : Cert.ReferenceIdeal.Facts] [hPre_action_nonneg : Cert.Pre_action_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_action_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_action_nonneg [hKernelIdeal : Cert.KernelIdeal.Facts] [hReferenceIdeal : Cert.ReferenceIdeal.Facts] [hPre_action_nonneg : Cert.Pre_action_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_action_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_action_nonneg : Cert.Pre_action_nonneg.Facts),
    quiescent_Kernel (hKernel := hKernel)
    ∧ quiescent_KernelIdeal (hKernelIdeal := hKernelIdeal)
    ∧ quiescent_KernelIdeal_pre_action_nonneg (hKernelIdeal := hKernelIdeal) (hPre_action_nonneg := hPre_action_nonneg)
    ∧ quiescent_ReferenceIdeal (hReferenceIdeal := hReferenceIdeal)
    ∧ quiescent_ReferenceIdeal_pre_action_nonneg (hReferenceIdeal := hReferenceIdeal) (hPre_action_nonneg := hPre_action_nonneg)
    ∧ preserves_Kernel_KernelIdeal
    ∧ algebraic_KernelIdeal_ReferenceIdeal_pre_action_nonneg (hKernelIdeal := hKernelIdeal) (hReferenceIdeal := hReferenceIdeal) (hPre_action_nonneg := hPre_action_nonneg)
-- ==== Pre_action_nonneg.lean ====
abbrev S16384x1000 : Shape := ⟨2, ![16384, 1000]⟩
abbrev S16384 : Shape := ⟨1, ![16384]⟩
abbrev S2x16 : Shape := ⟨2, ![2, 16]⟩
abbrev S16 : Shape := ⟨1, ![16]⟩
abbrev S16x1 : Shape := ⟨2, ![16, 1]⟩
abbrev S1 : Shape := ⟨1, ![1]⟩
abbrev S1000x16 : Shape := ⟨2, ![1000, 16]⟩
abbrev S16x1000 : Shape := ⟨2, ![16, 1000]⟩
abbrev S1000 : Shape := ⟨1, ![1000]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384x1000 .f32) (main_arg1 : IVec S16384 32) (main_arg2 : FVec F S16384 .f32) (main_arg3 : FVec F S2x16 .f32) (main_arg4 : FVec F S16 .f32) (main_arg5 : FVec F S16x1 .f32) (main_arg6 : FVec F S1 .f32) (main_arg7 : FVec F S1000x16 .f32) (main_arg8 : FVec F S16 .f32) (main_arg9 : FVec F S16x1000 .f32) (main_arg10 : FVec F S1000 .f32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  main_v1
-- ==== Kernel.lean ====
abbrev S16384x1000 : Shape := ⟨2, ![16384, 1000]⟩
abbrev S16384 : Shape := ⟨1, ![16384]⟩
abbrev S2x16 : Shape := ⟨2, ![2, 16]⟩
abbrev S16 : Shape := ⟨1, ![16]⟩
abbrev S16x1 : Shape := ⟨2, ![16, 1]⟩
abbrev S1 : Shape := ⟨1, ![1]⟩
abbrev S1000x16 : Shape := ⟨2, ![1000, 16]⟩
abbrev S16x1000 : Shape := ⟨2, ![16, 1000]⟩
abbrev S1000 : Shape := ⟨1, ![1000]⟩
abbrev S16384x1 : Shape := ⟨2, ![16384, 1]⟩
abbrev S1x16 : Shape := ⟨2, ![1, 16]⟩
abbrev S1x1 : Shape := ⟨2, ![1, 1]⟩
abbrev S1x1000 : Shape := ⟨2, ![1, 1000]⟩
abbrev S1024x1000 : Shape := ⟨2, ![1024, 1000]⟩
abbrev S1024x1 : Shape := ⟨2, ![1024, 1]⟩
abbrev S1024 : Shape := ⟨1, ![1024]⟩
abbrev S1024x16 : Shape := ⟨2, ![1024, 16]⟩

abbrev nBuf : Space → Nat
  | .hbm => 23
  | .vmem => 22
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384, .f32⟩
  | .hbm, ⟨3, _⟩ => ⟨S2x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S1000x16, .f32⟩
  | .hbm, ⟨8, _⟩ => ⟨S16, .f32⟩
  | .hbm, ⟨9, _⟩ => ⟨S16x1000, .f32⟩
  | .hbm, ⟨10, _⟩ => ⟨S1000, .f32⟩
  | .hbm, ⟨11, _⟩ => ⟨S16384x1, .i32⟩
  | .hbm, ⟨12, _⟩ => ⟨S16384x1, .f32⟩
  | .hbm, ⟨13, _⟩ => ⟨S1x16, .f32⟩
  | .hbm, ⟨14, _⟩ => ⟨S1x16, .f32⟩
  | .hbm, ⟨15, _⟩ => ⟨S1x1, .f32⟩
  | .hbm, ⟨16, _⟩ => ⟨S16x1000, .f32⟩
  | .hbm, ⟨17, _⟩ => ⟨S1x16, .f32⟩
  | .hbm, ⟨18, _⟩ => ⟨S1x1000, .f32⟩
  | .hbm, ⟨19, _⟩ => ⟨S16384x1000, .f32⟩
  | .hbm, ⟨20, _⟩ => ⟨S16384x1000, .f32⟩
  | .hbm, ⟨21, _⟩ => ⟨S16384x1000, .f32⟩
  | .hbm, ⟨22, _⟩ => ⟨S16384x1000, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S2x16, .f32⟩
  | .local _ .vmem, ⟨7, _⟩ => ⟨S1x16, .f32⟩
  | .local _ .vmem, ⟨8, _⟩ => ⟨S1x16, .f32⟩
  | .local _ .vmem, ⟨9, _⟩ => ⟨S1x1, .f32⟩
  | .local _ .vmem, ⟨10, _⟩ => ⟨S16x1000, .f32⟩
  | .local _ .vmem, ⟨11, _⟩ => ⟨S1x16, .f32⟩
  | .local _ .vmem, ⟨12, _⟩ => ⟨S16x1000, .f32⟩
  | .local _ .vmem, ⟨13, _⟩ => ⟨S1x1000, .f32⟩
  | .local _ .vmem, ⟨14, _⟩ => ⟨S1024x1000, .f32⟩
  | .local _ .vmem, ⟨15, _⟩ => ⟨S1024x1000, .f32⟩
  | .local _ .vmem, ⟨16, _⟩ => ⟨S1024x1000, .f32⟩
  | .local _ .vmem, ⟨17, _⟩ => ⟨S1024x1000, .f32⟩
  | .local _ .vmem, ⟨18, _⟩ => ⟨S1024x1000, .f32⟩
  | .local _ .vmem, ⟨19, _⟩ => ⟨S1024x1000, .f32⟩
  | .local _ .vmem, ⟨20, _⟩ => ⟨S1024x1000, .f32⟩
  | .local _ .vmem, ⟨21, _⟩ => ⟨S1024x1000, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1000 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1000 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1000 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16384x1000 : Shape := ⟨2, ![16384, 1000]⟩
abbrev S16384 : Shape := ⟨1, ![16384]⟩
abbrev S2x16 : Shape := ⟨2, ![2, 16]⟩
abbrev S16 : Shape := ⟨1, ![16]⟩
abbrev S16x1 : Shape := ⟨2, ![16, 1]⟩
abbrev S1 : Shape := ⟨1, ![1]⟩
abbrev S1000x16 : Shape := ⟨2, ![1000, 16]⟩
abbrev S16x1000 : Shape := ⟨2, ![16, 1000]⟩
abbrev S1000 : Shape := ⟨1, ![1000]⟩
abbrev S_ : Shape := ⟨0, ![]⟩
abbrev S16384x1 : Shape := ⟨2, ![16384, 1]⟩
abbrev S16384x1x1 : Shape := ⟨3, ![16384, 1, 1]⟩
abbrev S1x1x1 : Shape := ⟨3, ![1, 1, 1]⟩
abbrev S16384x2 : Shape := ⟨2, ![16384, 2]⟩
abbrev S16384x16 : Shape := ⟨2, ![16384, 16]⟩
abbrev S1x16 : Shape := ⟨2, ![1, 16]⟩
abbrev S1x1 : Shape := ⟨2, ![1, 1]⟩
abbrev S1x1000 : Shape := ⟨2, ![1, 1000]⟩

abbrev nBuf : Space → Nat
  | .hbm => 103
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384, .f32⟩
  | .hbm, ⟨3, _⟩ => ⟨S2x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S1000x16, .f32⟩
  | .hbm, ⟨8, _⟩ => ⟨S16, .f32⟩
  | .hbm, ⟨9, _⟩ => ⟨S16x1000, .f32⟩
  | .hbm, ⟨10, _⟩ => ⟨S1000, .f32⟩
  | .hbm, ⟨11, _⟩ => ⟨S_, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384x1000, .f32⟩
  | .hbm, ⟨16, _⟩ => ⟨S16384x1000, .f32⟩
  | .hbm, ⟨17, _⟩ => ⟨S16384x1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S_, .i32⟩
  | .hbm, ⟨22, _⟩ => ⟨S16384x1, .i32⟩
  | .hbm, ⟨23, _⟩ => ⟨S16384x1, .i32⟩
  | .hbm, ⟨24, _⟩ => ⟨S16384x1, .i32⟩
  | .hbm, ⟨25, _⟩ => ⟨S16384x1x1, .i32⟩
  | .hbm, ⟨26, _⟩ => ⟨S1, .i32⟩
  | .hbm, ⟨27, _⟩ => ⟨S_, .i32⟩
  | .hbm, ⟨28, _⟩ => ⟨S16384x1x1, .i32⟩
  | .hbm, ⟨29, _⟩ => ⟨S16384x1x1, .i1⟩
  | .hbm, ⟨30, _⟩ => ⟨S1x1x1, .i32⟩
  | .hbm, ⟨31, _⟩ => ⟨S16384x1x1, .i32⟩
  | .hbm, ⟨32, _⟩ => ⟨S16384x1x1, .i1⟩
  | .hbm, ⟨33, _⟩ => ⟨S16384x1x1, .i1⟩
  | .hbm, ⟨34, _⟩ => ⟨S_, .i1⟩
  | .hbm, ⟨35, _⟩ => ⟨S16384x1, .i1⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384, .f32⟩
  | .hbm, ⟨41, _⟩ => ⟨S16384x1, .f32⟩
  | .hbm, ⟨42, _⟩ => ⟨S16384x1, .f32⟩
  | .hbm, ⟨43, _⟩ => ⟨S16384x2, .f32⟩
  | .hbm, ⟨44, _⟩ => ⟨S16384x16, .f32⟩
  | .hbm, ⟨45, _⟩ => ⟨S1x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S16384x1, .f32⟩
  | .hbm, ⟨50, _⟩ => ⟨S1x1, .f32⟩
  | .hbm, ⟨51, _⟩ => ⟨S16384x1, .f32⟩
  | .hbm, ⟨52, _⟩ => ⟨S16384x1, .f32⟩
  | .hbm, ⟨53, _⟩ => ⟨S16384, .f32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S16384, .i32⟩
  | .hbm, ⟨69, _⟩ => ⟨S16384x1, .i32⟩
  | .hbm, ⟨70, _⟩ => ⟨S16384x1, .i32⟩
  | .hbm, ⟨71, _⟩ => ⟨S16384x2, .i32⟩
  | .hbm, ⟨72, _⟩ => ⟨S16384x1000, .f32⟩
  | .hbm, ⟨73, _⟩ => ⟨S16384x1, .i32⟩
  | .hbm, ⟨74, _⟩ => ⟨S1x1000, .i32⟩
  | .hbm, ⟨75, _⟩ => ⟨S16384x1000, .i32⟩
  | .hbm, ⟨76, _⟩ => ⟨S16384x1000, .i32⟩
  | .hbm, ⟨77, _⟩ => ⟨S16384x1000, .i1⟩
  | .hbm, ⟨78, _⟩ => ⟨S16384x1000, .f32⟩
  | .hbm, ⟨79, _⟩ => ⟨S16384x16, .f32⟩
  | .hbm, ⟨80, _⟩ => ⟨S1x16, .f32⟩
  | .hbm, ⟨81, _⟩ => ⟨S16384x16, .f32⟩
  | .hbm, ⟨82, _⟩ => ⟨S16384x16, .f32⟩
  | .hbm, ⟨83, _⟩ => ⟨S16384x16, .f32⟩
  | .hbm, ⟨84, _⟩ => ⟨S16384x1000, .f32⟩
  | .hbm, ⟨85, _⟩ => ⟨S1x1000, .f32⟩
  | .hbm, ⟨86, _⟩ => ⟨S16384x1000, .f32⟩
  | .hbm, ⟨87, _⟩ => ⟨S16384x1000, .f32⟩
  | .hbm, ⟨88, _⟩ => ⟨S16384x1000, .f32⟩
  | .hbm, ⟨89, _⟩ => ⟨S_, .f32⟩
  | .hbm, ⟨90, _⟩ => ⟨S16384, .f32⟩
  | .hbm, ⟨91, _⟩ => ⟨S_, .f32⟩
  | .hbm, ⟨92, _⟩ => ⟨S16384, .f32⟩
  | .hbm, ⟨93, _⟩ => ⟨S16384, .f32⟩
  | .hbm, ⟨94, _⟩ => ⟨S16384x1, .f32⟩
  | .hbm, ⟨95, _⟩ => ⟨S16384x1000, .f32⟩
  | .hbm, ⟨96, _⟩ => ⟨S16384x1000, .f32⟩
  | .hbm, ⟨97, _⟩ => ⟨S16384x1000, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S16384x1000, .f32⟩
  | .hbm, ⟨102, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c : Ref sig .tc := ⟨.hbm, 55, rfl⟩
abbrev main_v21 : Ref sig .tc := ⟨.hbm, 56, rfl⟩
abbrev main_v22 : Ref sig .tc := ⟨.hbm, 57, rfl⟩
abbrev main_c_1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_2 : Ref sig .tc := ⟨.hbm, 62, rfl⟩
abbrev main_v26 : Ref sig .tc := ⟨.hbm, 63, rfl⟩
abbrev main_v27 : Ref sig .tc := ⟨.hbm, 64, rfl⟩
abbrev main_c_3 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_4 : Ref sig .tc := ⟨.hbm, 89, rfl⟩
abbrev main_v46 : Ref sig .tc := ⟨.hbm, 90, rfl⟩
abbrev main_cst_5 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_6 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩

abbrev nD : Nat := 1
abbrev τ : Topo := Topo.v7x

variable {F : FTy → Type} [FloatOps F]
-- ==== Proof.Row.lean ====
/-
  What the four results hold at one row, as functions of that row's arguments over the extended reals: the updated
  estimates, the choice network's output, their sum, and the softmax of that sum. The kernel and the reference are each
  shown, in modules of their own, to hold these functions row by row.
-/
module

public import Idealize.ShloMosaic.Lib.Pointwise
public import Idealize.ShloMosaic.Lib.WordCmp

@[expose] public section

noncomputable section

namespace Cert.Row

open Idealize.ShloMosaic

/-- The factor by which an estimate that was not chosen decays (the literal 0.95 in f32). -/
abbrev keep : EReal := Ideal.ofBits .f32 0x3F733333#32

/-- What is added to an estimate that was not chosen (the literal 0.025 in f32). -/
abbrev drift : EReal := Ideal.ofBits .f32 0x3CCCCCCD#32

/-- The reward network on a chosen estimate `q` and a reward `r`: one hidden layer of 16 units with `tanh`, one output. -/
def updated (w1 : Fin 2 → Fin 16 → EReal) (b1 w2 : Fin 16 → EReal) (b2 q r : EReal) : EReal :=
  (∑ h : Fin 16, Ideal.tanh (q * w1 0 h + r * w1 1 h + b1 h) * w2 h) + b2

/-- The new estimate of action `a` at a row whose previous action is the word `k`: the reward network's output if `a` is
    that action, else the old estimate decayed. -/
def estimate (w1 : Fin 2 → Fin 16 → EReal) (b1 w2 : Fin 16 → EReal) (b2 : EReal) (q : Fin 1000 → EReal) (k : BitVec 32) (r : EReal)
    (a : Fin 1000) : EReal :=
  if k = BitVec.ofNat 32 a.val then updated w1 b1 w2 b2 (q a) r else keep * q a + drift

/-- The one-hot vector of the word `k`: one at the action it names, zero elsewhere; all zero if it names none. -/
def oneHot (k : BitVec 32) (a : Fin 1000) : EReal := if k = BitVec.ofNat 32 a.val then 1 else 0

/-- The choice network on the previous action `k`: its one-hot vector through one hidden layer of 16 units with `tanh`, one
    output for each action. -/
def choice (w1 : Fin 1000 → Fin 16 → EReal) (b1 : Fin 16 → EReal) (w2 : Fin 16 → Fin 1000 → EReal) (b2 : Fin 1000 → EReal) (k : BitVec 32)
    (a : Fin 1000) : EReal :=
  (∑ h : Fin 16, Ideal.tanh ((∑ a' : Fin 1000, oneHot k a' * w1 a' h) + b1 h) * w2 h a) + b2 a

/-- The greatest of a row's entries. -/
def top (z : Fin 1000 → EReal) : EReal := Finset.univ.fold max (⊥ : EReal) z

/-- The softmax of a row: the exponentials of the entries less the greatest one, divided by their sum. -/
def softmax (z : Fin 1000 → EReal) (a : Fin 1000) : EReal :=
  Ideal.div (Ideal.exp (z a - top z)) (∑ a' : Fin 1000, Ideal.exp (z a' - top z))

/-- The literal from which the maxima start is the least value. -/
theorem lowest : Ideal.ofBits .f32 0xFF800000#32 = (⊥ : EReal) := by
  simp [Ideal.ofBits, Ideal.ieee]

/-- A comparison of two words for equality that picks between two values picks the first exactly when they are equal. -/
theorem pick_eq {α : Type} (x y : BitVec 32) (u v : α) : Scalar.select (IntOp.cmpi .eq x y) u v = if x = y then u else v := by
  rw [WordCmp.cmpi_eq_eq, WordCmp.select_decide]

/-- Different actions have different words. -/
theorem word_inj {a b : Fin 1000} : BitVec.ofNat 32 a.val = BitVec.ofNat 32 b.val ↔ a = b := by
  rw [WordCmp.ofNat_eq_ofNat_iff (lt_trans a.isLt (by norm_num)) (lt_trans b.isLt (by norm_num))]
  exact Fin.val_inj

/-- Summing a row's entries where the action is the chosen one, and zero elsewhere, gives the chosen entry. -/
theorem sum_pick (q : Fin 1000 → EReal) (a : Fin 1000) :
    (∑ x : Fin 1000, if BitVec.ofNat 32 x.val = BitVec.ofNat 32 a.val then q x else 0) = q a := by
  simp only [word_inj]
  exact Finset.sum_ite_eq' _ _ _ |>.trans (if_pos (Finset.mem_univ a))

/-- A truth value read as an unsigned number is one or zero. -/
theorem unsigned_pick (x y : BitVec 32) : (FloatOps.uitofp .f32 (IntOp.cmpi .eq x y) : Ideal .f32) = if x = y then (1 : EReal) else 0 := by
  rw [WordCmp.cmpi_eq_eq]
  by_cases h : x = y
  · simp [h, FloatOps.uitofp]
  · simp [h, FloatOps.uitofp]

/-- A truth value widened to 32 bits and read as a signed number is one or zero. -/
theorem signed_pick (x y : BitVec 32) :
    (FloatOps.sitofp .f32 (BitVec.setWidth 32 (IntOp.cmpi .eq x y)) : Ideal .f32) = if x = y then (1 : EReal) else 0 := by
  rw [WordCmp.cmpi_eq_eq]
  by_cases h : x = y
  · simp [h, FloatOps.sitofp]
  · simp [h, FloatOps.sitofp]

end Cert.Row

end
-- ==== Proof.Whole.lean ====
/-
  The four result arrays as functions of the argument arrays: at row `r` and action `a`, the row function of `Proof.Row` at
  row `r` of the arguments.
-/
module

public import proofs.«01_k».proof.Proof.Row

@[expose] public section

noncomputable section

namespace Cert.Whole

open Idealize.ShloMosaic

/-- The argument arrays of either program. -/
structure Args where
  q : FVec Ideal ⟨2, ![16384, 1000]⟩ .f32
  action : IVec ⟨1, ![16384]⟩ 32
  reward : FVec Ideal ⟨1, ![16384]⟩ .f32
  rw1 : FVec Ideal ⟨2, ![2, 16]⟩ .f32
  rb1 : FVec Ideal ⟨1, ![16]⟩ .f32
  rw2 : FVec Ideal ⟨2, ![16, 1]⟩ .f32
  rb2 : FVec Ideal ⟨1, ![1]⟩ .f32
  aw1 : FVec Ideal ⟨2, ![1000, 16]⟩ .f32
  ab1 : FVec Ideal ⟨1, ![16]⟩ .f32
  aw2 : FVec Ideal ⟨2, ![16, 1000]⟩ .f32
  ab2 : FVec Ideal ⟨1, ![1000]⟩ .f32

variable (x : Args)

/-- The new estimate of action `a` at row `r`. -/
def estimateAt (r : Fin 16384) (a : Fin 1000) : EReal :=
  Row.estimate (fun j h => x.rw1 (ix2 j h)) (fun h => x.rb1 (ix1 h)) (fun h => x.rw2 (ix2 h 0)) (x.rb2 (ix1 0)) (fun a' => x.q (ix2 r a'))
    (x.action (ix1 r)) (x.reward (ix1 r)) a

/-- The choice network's output for action `a` at row `r`. -/
def choiceAt (r : Fin 16384) (a : Fin 1000) : EReal :=
  Row.choice (fun a' h => x.aw1 (ix2 a' h)) (fun h => x.ab1 (ix1 h)) (fun h a' => x.aw2 (ix2 h a')) (fun a' => x.ab2 (ix1 a'))
    (x.action (ix1 r)) a

/-- The logit of action `a` at row `r`: the new estimate plus the choice network's output. -/
def logitAt (r : Fin 16384) (a : Fin 1000) : EReal := estimateAt x r a + choiceAt x r a

/-- The probability of action `a` at row `r`: the softmax of the row's logits. -/
def probAt (r : Fin 16384) (a : Fin 1000) : EReal := Row.softmax (logitAt x r) a

/-- The array of the new estimates. -/
def estimates : FVec Ideal ⟨2, ![16384, 1000]⟩ .f32 := fun j => estimateAt x (j 0) (j 1)

/-- The array of the choice network's outputs. -/
def choices : FVec Ideal ⟨2, ![16384, 1000]⟩ .f32 := fun j => choiceAt x (j 0) (j 1)

/-- The array of the logits. -/
def logits : FVec Ideal ⟨2, ![16384, 1000]⟩ .f32 := fun j => logitAt x (j 0) (j 1)

/-- The array of the probabilities. -/
def probs : FVec Ideal ⟨2, ![16384, 1000]⟩ .f32 := fun j => probAt x (j 0) (j 1)

end Cert.Whole

end
-- ==== Proof.Block.lean ====
/-
  What the kernel computes from one block of rows: at row `i` and action `a` of the block, each of its four stores holds the
  row function of `Proof.Row` at that row's entries of the input blocks.
-/
module

public import proofs.«01_k».proof.Proof.Row
public import proofs.«01_k».proof.Proof.Gen.KernelIdeal.Value

@[expose] public section

set_option maxRecDepth 16384

noncomputable section

namespace Cert.KernelIdeal.Block

open Cert.KernelIdeal Cert.KernelIdeal.Gen Idealize.ShloMosaic

theorem hz : (![0, 0] : Fin 2 → Nat) = fun _ => 0 := funext fun a => by fin_cases a <;> rfl

/-- The first row of the two-row weight block. -/
theorem ld_first (x3 : Vec Ideal S2x16 .f32) (h : Fin 16) : View.ld x3 r0_2 (ix2 0 h) = x3 (ix2 0 h) :=
  congrArg x3 (funext fun a => Fin.ext (match a with | ⟨0, _⟩ => rfl | ⟨1, _⟩ => by show 0 + 1 * h.val = h.val; omega))

/-- The second row of the two-row weight block. -/
theorem ld_second (x3 : Vec Ideal S2x16 .f32) (h : Fin 16) : View.ld x3 r0_3 (ix2 0 h) = x3 (ix2 1 h) :=
  congrArg x3 (funext fun a => Fin.ext (match a with | ⟨0, _⟩ => rfl | ⟨1, _⟩ => by show 0 + 1 * h.val = h.val; omega))

/-- The mask of the chosen actions: at row `i` and action `a`, whether the row's word names `a`. -/
theorem mask_apply (v0 : Vec Ideal S1024x1 .i32) (i : Fin 1024) (a : Fin 1000) :
    k0_pay1 (F := Ideal) v0 (ix2 i a) = IntOp.cmpi .eq (BitVec.ofNat 32 a.val) (v0 (ix2 i 0)) := by
  pointwise [k0_pay1]

/-- The decayed estimates. -/
theorem decay_apply (v4 : Vec Ideal S1024x1000 .f32) (i : Fin 1024) (a : Fin 1000) :
    k0_pay2 (F := Ideal) v4 (ix2 i a) = Row.keep * v4 (ix2 i a) + Row.drift := by
  pointwise [k0_pay2]

/-- The hidden layer of the reward network, each unit times its output weight: the chosen estimate is the row's sum of the
    entries under the mask. -/
theorem hidden_apply (v0 : Vec Ideal S1024x1 .i32) (v2 : Vec Ideal S1024x1 .f32) (v4 : Vec Ideal S1024x1000 .f32)
    (v16 v22 v29 v35 : Vec Ideal S1x16 .f32) (i : Fin 1024) (h : Fin 16) :
    k0_pay3 (F := Ideal) v0 v2 v4 v16 v22 v29 v35 (ix2 i h)
      = Ideal.tanh ((∑ x : Fin 1000, if BitVec.ofNat 32 x.val = v0 (ix2 i 0) then v4 (ix2 i x) else (0 : EReal)) * v16 (ix2 0 h)
          + v2 (ix2 i 0) * v22 (ix2 0 h) + v29 (ix2 0 h)) * v35 (ix2 0 h) := by
  pointwise [k0_pay3, k0_pay1]
  simp only [Row.pick_eq]

/-- The new estimates: the mask picks between the reward network's output and the decayed estimate. -/
theorem merge_apply (v7 : IVec S1024x1000 1) (v11 : FVec Ideal S1024x1000 .f32) (v39 : FVec Ideal S1024x16 .f32) (v42 : Vec Ideal S1x1 .f32)
    (i : Fin 1024) (a : Fin 1000) :
    k0_pay4 (F := Ideal) v7 v11 v39 v42 (ix2 i a)
      = Scalar.select (v7 (ix2 i a)) ((∑ h : Fin 16, v39 (ix2 i h)) + v42 (ix2 0 0)) (v11 (ix2 i a)) := by
  pointwise [k0_pay4]

/-- The choice network on the mask's rows. -/
theorem network_apply (v7 : IVec S1024x1000 1) (v51 : Vec Ideal S16x1000 .f32) (v54 : Vec Ideal S1x16 .f32) (v60 : Vec Ideal S16x1000 .f32)
    (v62 : Vec Ideal S1x1000 .f32) (i : Fin 1024) (a : Fin 1000) :
    k0_pay5 (F := Ideal) v7 v51 v54 v60 v62 (ix2 i a)
      = (∑ h : Fin 16, Ideal.tanh ((∑ x : Fin 1000, (FloatOps.sitofp .f32 (BitVec.setWidth 32 (v7 (ix2 i x))) : Ideal .f32) * v51 (ix2 h x))
          + v54 (ix2 0 h)) * v60 (ix2 h a)) + v62 (ix2 0 a) := by
  pointwise [k0_pay5]

/-- The softmax of the logits' rows. -/
theorem softmax_apply (v7 : IVec S1024x1000 1) (v11 : FVec Ideal S1024x1000 .f32) (v39 : FVec Ideal S1024x16 .f32) (v42 : Vec Ideal S1x1 .f32)
    (v51 : Vec Ideal S16x1000 .f32) (v54 : Vec Ideal S1x16 .f32) (v60 : Vec Ideal S16x1000 .f32) (v62 : Vec Ideal S1x1000 .f32)
    (i : Fin 1024) (a : Fin 1000) :
    k0_pay7 (F := Ideal) v7 v11 v39 v42 v51 v54 v60 v62 (ix2 i a)
      = Row.softmax (fun a' => k0_pay6 (F := Ideal) v7 v11 v39 v42 v51 v54 v60 v62 (ix2 i a')) a := by
  unfold k0_pay7
  generalize k0_pay6 (F := Ideal) v7 v11 v39 v42 v51 v54 v60 v62 = z
  pointwise [Row.softmax, Row.top]
  rw [Row.lowest]

section Stores

variable (x0 : Vec Ideal S1024x1000 .f32) (x1 : Vec Ideal S1024x1 .i32) (x2 : Vec Ideal S1024x1 .f32) (x3 : Vec Ideal S2x16 .f32)
  (x4 x5 : Vec Ideal S1x16 .f32) (x6 : Vec Ideal S1x1 .f32) (x7 : Vec Ideal S16x1000 .f32) (x8 : Vec Ideal S1x16 .f32)
  (x9 : Vec Ideal S16x1000 .f32) (x10 : Vec Ideal S1x1000 .f32) (i : Fin 1024) (a : Fin 1000)

/-- The new estimates' block, in the row's entries of the input blocks. -/
theorem pay_estimate :
    k0_pay4 (F := Ideal) (k0_pay1 x1) (k0_pay2 x0) (k0_pay3 x1 x2 x0 (View.ld x3 r0_2) (View.ld x3 r0_3) x4 x5) x6 (ix2 i a)
      = Row.estimate (fun j h => x3 (ix2 j h)) (fun h => x4 (ix2 0 h)) (fun h => x5 (ix2 0 h)) (x6 (ix2 0 0)) (fun a' => x0 (ix2 i a'))
          (x1 (ix2 i 0)) (x2 (ix2 i 0)) a := by
  rw [merge_apply, mask_apply, Row.pick_eq, decay_apply]
  unfold Row.estimate
  by_cases hk : x1 (ix2 i 0) = BitVec.ofNat 32 a.val
  · rw [if_pos hk, if_pos hk.symm]
    unfold Row.updated
    refine congrArg (· + x6 (ix2 0 0)) (Finset.sum_congr rfl fun h _ => ?_)
    rw [hidden_apply, hk, Row.sum_pick (fun a' => x0 (ix2 i a')), ld_first, ld_second]
  · rw [if_neg hk, if_neg (Ne.symm hk)]

/-- The choice network's block, in the row's entries of the input blocks. -/
theorem pay_choice :
    k0_pay5 (F := Ideal) (k0_pay1 x1) x7 x8 x9 x10 (ix2 i a)
      = Row.choice (fun a' h => x7 (ix2 h a')) (fun h => x8 (ix2 0 h)) (fun h a' => x9 (ix2 h a')) (fun a' => x10 (ix2 0 a')) (x1 (ix2 i 0)) a := by
  rw [network_apply]
  unfold Row.choice Row.oneHot
  simp only [mask_apply, Row.signed_pick, eq_comm (a := x1 (ix2 i 0))]

/-- The first store holds the new estimates of the block's rows. -/
theorem out_estimate :
    out0_11 (F := Ideal) x0 x1 x2 x3 x4 x5 x6 x7 x8 x9 x10 (ix2 i a)
      = Row.estimate (fun j h => x3 (ix2 j h)) (fun h => x4 (ix2 0 h)) (fun h => x5 (ix2 0 h)) (x6 (ix2 0 0)) (fun a' => x0 (ix2 i a'))
          (x1 (ix2 i 0)) (x2 (ix2 i 0)) a := by
  rw [← pay_estimate]
  unfold out0_11 k0_pay8 k0_pay9 k0_pay10
  rw [View.canon_unit_zero hz, View.ld_unit_zero hz _ x0, View.ld_unit_zero hz _ x1, View.ld_unit_zero hz _ x2, View.ld_unit_zero hz _ x4,
    View.ld_unit_zero hz _ x5, View.ld_unit_zero hz _ x6]

/-- The second store holds the choice network's output on the block's rows. -/
theorem out_choice :
    out0_12 (F := Ideal) x0 x1 x2 x3 x4 x5 x6 x7 x8 x9 x10 (ix2 i a)
      = Row.choice (fun a' h => x7 (ix2 h a')) (fun h => x8 (ix2 0 h)) (fun h a' => x9 (ix2 h a')) (fun a' => x10 (ix2 0 a')) (x1 (ix2 i 0)) a := by
  rw [← pay_choice]
  unfold out0_12 k0_pay8
  rw [View.canon_unit_zero hz, View.ld_unit_zero hz _ x1, View.ld_unit_zero hz _ x7, View.ld_unit_zero hz _ x8, View.ld_unit_zero hz _ x9,
    View.ld_unit_zero hz _ x10]

/-- The third store holds the sum of the first two. -/
theorem out_logits :
    out0_13 (F := Ideal) x0 x1 x2 x3 x4 x5 x6 x7 x8 x9 x10 (ix2 i a)
      = out0_11 (F := Ideal) x0 x1 x2 x3 x4 x5 x6 x7 x8 x9 x10 (ix2 i a) + out0_12 (F := Ideal) x0 x1 x2 x3 x4 x5 x6 x7 x8 x9 x10 (ix2 i a) := by
  unfold out0_11 out0_12 out0_13
  rw [View.canon_unit_zero hz, View.canon_unit_zero hz, View.canon_unit_zero hz]
  rfl

/-- The fourth store holds the softmax of the third's rows. -/
theorem out_probs :
    out0_14 (F := Ideal) x0 x1 x2 x3 x4 x5 x6 x7 x8 x9 x10 (ix2 i a)
      = Row.softmax (fun a' => out0_13 (F := Ideal) x0 x1 x2 x3 x4 x5 x6 x7 x8 x9 x10 (ix2 i a')) a := by
  unfold out0_13 out0_14
  rw [View.canon_unit_zero hz, View.canon_unit_zero hz]
  exact softmax_apply _ _ _ _ _ _ _ _ i a

end Stores

end Cert.KernelIdeal.Block

end
-- ==== Proof.Entry.lean ====
/-
  What the kernel's blocks hold at each grid point, in terms of the program's arguments: point `t` works on rows
  `1024 t … 1024 t + 1023` of the row arrays and on the whole of the weights, which reach it reshaped or transposed.
-/
module

public import proofs.«01_k».proof.Proof.Gen.KernelIdeal.Value
public import Idealize.ShloMosaic.Lib.Pointwise

@[expose] public section

set_option maxRecDepth 16384

noncomputable section

namespace Cert.KernelIdeal.Entry

open Cert.KernelIdeal Cert.KernelIdeal.Gen Idealize.ShloMosaic Idealize.ShloMosaic.TcCoe Idealize.SL.Sem

variable (m : (ℓ : Loc nD τ sig) → Buf (Elt Ideal) ℓ)

/-- The array's row that grid point `t` holds as row `i` of its block. -/
def row (t : Fin cfg0.N) (i : Fin 1024) : Fin 16384 :=
  ⟨1024 * t.val + i.val, by have h := t.isLt; have e : cfg0.N = 16 := N_0; have := i.isLt; omega⟩

/-! ## The arrays as the kernel finds them -/

theorem entry_action (c : Dev nD) (r : Fin 16384) :
    (V m c main_v0 : IVec S16384x1 32) (ix2 r 0) = (m ((c : Thread nD τ).loc main_arg1) : IVec S16384 32) (ix1 r) := by
  have e : (V m c main_v0 : IVec S16384x1 32)
      = shapeCast S16384x1 (m ((c : Thread nD τ).loc main_arg1) : IVec S16384 32) shapeCasts_S16384_S16384x1 := by
    show StableHlo.after hostOps0 _ _ = _
    after_results
    rfl
  rw [e]
  pointwise

theorem entry_reward (c : Dev nD) (r : Fin 16384) :
    (V m c main_v1 : FVec Ideal S16384x1 .f32) (ix2 r 0) = (m ((c : Thread nD τ).loc main_arg2) : FVec Ideal S16384 .f32) (ix1 r) := by
  have e : (V m c main_v1 : FVec Ideal S16384x1 .f32)
      = shapeCast S16384x1 (m ((c : Thread nD τ).loc main_arg2) : FVec Ideal S16384 .f32) shapeCasts_S16384_S16384x1 := by
    show StableHlo.after hostOps0 _ _ = _
    after_results
    rfl
  rw [e]
  pointwise

theorem entry_rb1 (c : Dev nD) (h : Fin 16) :
    (V m c main_v2 : FVec Ideal S1x16 .f32) (ix2 0 h) = (m ((c : Thread nD τ).loc main_arg4) : FVec Ideal S16 .f32) (ix1 h) := by
  have e : (V m c main_v2 : FVec Ideal S1x16 .f32)
      = shapeCast S1x16 (m ((c : Thread nD τ).loc main_arg4) : FVec Ideal S16 .f32) shapeCasts_S16_S1x16 := by
    show StableHlo.after hostOps0 _ _ = _
    after_results
    rfl
  rw [e]
  pointwise

theorem entry_rw2 (c : Dev nD) (h : Fin 16) :
    (V m c main_v3 : FVec Ideal S1x16 .f32) (ix2 0 h) = (m ((c : Thread nD τ).loc main_arg5) : FVec Ideal S16x1 .f32) (ix2 h 0) := by
  have e : (V m c main_v3 : FVec Ideal S1x16 .f32)
      = shapeCast S1x16 (m ((c : Thread nD τ).loc main_arg5) : FVec Ideal S16x1 .f32) shapeCasts_S16x1_S1x16 := by
    show StableHlo.after hostOps0 _ _ = _
    after_results
    rfl
  rw [e]
  pointwise

theorem entry_rb2 (c : Dev nD) :
    (V m c main_v4 : FVec Ideal S1x1 .f32) (ix2 0 0) = (m ((c : Thread nD τ).loc main_arg6) : FVec Ideal S1 .f32) (ix1 0) := by
  have e : (V m c main_v4 : FVec Ideal S1x1 .f32)
      = shapeCast S1x1 (m ((c : Thread nD τ).loc main_arg6) : FVec Ideal S1 .f32) shapeCasts_S1_S1x1 := by
    show StableHlo.after hostOps0 _ _ = _
    after_results
    rfl
  rw [e]
  pointwise

theorem entry_aw1 (c : Dev nD) (h : Fin 16) (a : Fin 1000) :
    (V m c main_v5 : FVec Ideal S16x1000 .f32) (ix2 h a) = (m ((c : Thread nD τ).loc main_arg7) : FVec Ideal S1000x16 .f32) (ix2 a h) := by
  have e : (V m c main_v5 : FVec Ideal S16x1000 .f32)
      = transpose S16x1000 [1, 0] (m ((c : Thread nD τ).loc main_arg7) : FVec Ideal S1000x16 .f32) transposes_S1000x16_S16x1000_1_0 := by
    show StableHlo.after hostOps0 _ _ = _
    after_results
  rw [e]
  pointwise

theorem entry_ab1 (c : Dev nD) (h : Fin 16) :
    (V m c main_v6 : FVec Ideal S1x16 .f32) (ix2 0 h) = (m ((c : Thread nD τ).loc main_arg8) : FVec Ideal S16 .f32) (ix1 h) := by
  have e : (V m c main_v6 : FVec Ideal S1x16 .f32)
      = shapeCast S1x16 (m ((c : Thread nD τ).loc main_arg8) : FVec Ideal S16 .f32) shapeCasts_S16_S1x16 := by
    show StableHlo.after hostOps0 _ _ = _
    after_results
    rfl
  rw [e]
  pointwise

theorem entry_ab2 (c : Dev nD) (a : Fin 1000) :
    (V m c main_v7 : FVec Ideal S1x1000 .f32) (ix2 0 a) = (m ((c : Thread nD τ).loc main_arg10) : FVec Ideal S1000 .f32) (ix1 a) := by
  have e : (V m c main_v7 : FVec Ideal S1x1000 .f32)
      = shapeCast S1x1000 (m ((c : Thread nD τ).loc main_arg10) : FVec Ideal S1000 .f32) shapeCasts_S1000_S1x1000 := by
    show StableHlo.after hostOps0 _ _ = _
    after_results
    rfl
  rw [e]
  pointwise

/-! ## The blocks: of the row arrays -/

theorem index0 : ∀ t : Fin cfg0.N, win0_0.index t (0 : Fin 2) = t.val ∧ win0_0.index t (1 : Fin 2) = 0 :=
  (by decide +kernel : ∀ t : Fin grid0.N, _)

/-- Row `i` of window 0's block at point `t` is row `row t i` of its array. -/
theorem emb0 (t : Fin cfg0.N) (i : Fin 1024) (a : Fin 1000) : ((cfg0.win 0).blk t).view.emb (ix2 i a : S1024x1000.Idx) = ix2 (row t i) a := by
  obtain ⟨e0, e1⟩ := index0 t
  funext b; apply Fin.ext
  match b with
  | ⟨0, _⟩ => show win0_0.index t (0 : Fin 2) * 1024 + 1 * i.val = 1024 * t.val + i.val; omega
  | ⟨1, _⟩ => show win0_0.index t (1 : Fin 2) * 1000 + 1 * a.val = a.val; omega

theorem index1 : ∀ t : Fin cfg0.N, win0_1.index t (0 : Fin 2) = t.val ∧ win0_1.index t (1 : Fin 2) = 0 :=
  (by decide +kernel : ∀ t : Fin grid0.N, _)

/-- Row `i` of window 1's block at point `t` is row `row t i` of its array. -/
theorem emb1 (t : Fin cfg0.N) (i : Fin 1024) (a : Fin 1) : ((cfg0.win 1).blk t).view.emb (ix2 i a : S1024x1.Idx) = ix2 (row t i) a := by
  obtain ⟨e0, e1⟩ := index1 t
  funext b; apply Fin.ext
  match b with
  | ⟨0, _⟩ => show win0_1.index t (0 : Fin 2) * 1024 + 1 * i.val = 1024 * t.val + i.val; omega
  | ⟨1, _⟩ => show win0_1.index t (1 : Fin 2) * 1 + 1 * a.val = a.val; omega

theorem index2 : ∀ t : Fin cfg0.N, win0_2.index t (0 : Fin 2) = t.val ∧ win0_2.index t (1 : Fin 2) = 0 :=
  (by decide +kernel : ∀ t : Fin grid0.N, _)

/-- Row `i` of window 2's block at point `t` is row `row t i` of its array. -/
theorem emb2 (t : Fin cfg0.N) (i : Fin 1024) (a : Fin 1) : ((cfg0.win 2).blk t).view.emb (ix2 i a : S1024x1.Idx) = ix2 (row t i) a := by
  obtain ⟨e0, e1⟩ := index2 t
  funext b; apply Fin.ext
  match b with
  | ⟨0, _⟩ => show win0_2.index t (0 : Fin 2) * 1024 + 1 * i.val = 1024 * t.val + i.val; omega
  | ⟨1, _⟩ => show win0_2.index t (1 : Fin 2) * 1 + 1 * a.val = a.val; omega

theorem index11 : ∀ t : Fin cfg0.N, win0_11.index t (0 : Fin 2) = t.val ∧ win0_11.index t (1 : Fin 2) = 0 :=
  (by decide +kernel : ∀ t : Fin grid0.N, _)

/-- Row `i` of window 11's block at point `t` is row `row t i` of its array. -/
theorem emb11 (t : Fin cfg0.N) (i : Fin 1024) (a : Fin 1000) : ((cfg0.win 11).blk t).view.emb (ix2 i a : S1024x1000.Idx) = ix2 (row t i) a := by
  obtain ⟨e0, e1⟩ := index11 t
  funext b; apply Fin.ext
  match b with
  | ⟨0, _⟩ => show win0_11.index t (0 : Fin 2) * 1024 + 1 * i.val = 1024 * t.val + i.val; omega
  | ⟨1, _⟩ => show win0_11.index t (1 : Fin 2) * 1000 + 1 * a.val = a.val; omega

theorem index12 : ∀ t : Fin cfg0.N, win0_12.index t (0 : Fin 2) = t.val ∧ win0_12.index t (1 : Fin 2) = 0 :=
  (by decide +kernel : ∀ t : Fin grid0.N, _)

/-- Row `i` of window 12's block at point `t` is row `row t i` of its array. -/
theorem emb12 (t : Fin cfg0.N) (i : Fin 1024) (a : Fin 1000) : ((cfg0.win 12).blk t).view.emb (ix2 i a : S1024x1000.Idx) = ix2 (row t i) a := by
  obtain ⟨e0, e1⟩ := index12 t
  funext b; apply Fin.ext
  match b with
  | ⟨0, _⟩ => show win0_12.index t (0 : Fin 2) * 1024 + 1 * i.val = 1024 * t.val + i.val; omega
  | ⟨1, _⟩ => show win0_12.index t (1 : Fin 2) * 1000 + 1 * a.val = a.val; omega

theorem index13 : ∀ t : Fin cfg0.N, win0_13.index t (0 : Fin 2) = t.val ∧ win0_13.index t (1 : Fin 2) = 0 :=
  (by decide +kernel : ∀ t : Fin grid0.N, _)

/-- Row `i` of window 13's block at point `t` is row `row t i` of its array. -/
theorem emb13 (t : Fin cfg0.N) (i : Fin 1024) (a : Fin 1000) : ((cfg0.win 13).blk t).view.emb (ix2 i a : S1024x1000.Idx) = ix2 (row t i) a := by
  obtain ⟨e0, e1⟩ := index13 t
  funext b; apply Fin.ext
  match b with
  | ⟨0, _⟩ => show win0_13.index t (0 : Fin 2) * 1024 + 1 * i.val = 1024 * t.val + i.val; omega
  | ⟨1, _⟩ => show win0_13.index t (1 : Fin 2) * 1000 + 1 * a.val = a.val; omega

theorem index14 : ∀ t : Fin cfg0.N, win0_14.index t (0 : Fin 2) = t.val ∧ win0_14.index t (1 : Fin 2) = 0 :=
  (by decide +kernel : ∀ t : Fin grid0.N, _)

/-- Row `i` of window 14's block at point `t` is row `row t i` of its array. -/
theorem emb14 (t : Fin cfg0.N) (i : Fin 1024) (a : Fin 1000) : ((cfg0.win 14).blk t).view.emb (ix2 i a : S1024x1000.Idx) = ix2 (row t i) a := by
  obtain ⟨e0, e1⟩ := index14 t
  funext b; apply Fin.ext
  match b with
  | ⟨0, _⟩ => show win0_14.index t (0 : Fin 2) * 1024 + 1 * i.val = 1024 * t.val + i.val; omega
  | ⟨1, _⟩ => show win0_14.index t (1 : Fin 2) * 1000 + 1 * a.val = a.val; omega

/-! ## The blocks: of the weights -/

theorem index3 : ∀ t : Fin cfg0.N, win0_3.index t (0 : Fin 2) = 0 ∧ win0_3.index t (1 : Fin 2) = 0 :=
  (by decide +kernel : ∀ t : Fin grid0.N, _)

/-- Window 3's block is its whole array at every point. -/
theorem whole3 (c : Dev nD) (t : Fin cfg0.N) : iblk m c 3 t = V m c main_arg3 := by
  obtain ⟨e0, e1⟩ := index3 t
  funext j
  show V m c main_arg3 (((cfg0.win 3).blk t).view.emb j) = V m c main_arg3 j
  refine congrArg _ (funext fun b => Fin.ext ?_)
  match b with
  | ⟨0, _⟩ => show win0_3.index t (0 : Fin 2) * 2 + 1 * (j 0).val = (j 0).val; omega
  | ⟨1, _⟩ => show win0_3.index t (1 : Fin 2) * 16 + 1 * (j 1).val = (j 1).val; omega

theorem index4 : ∀ t : Fin cfg0.N, win0_4.index t (0 : Fin 2) = 0 ∧ win0_4.index t (1 : Fin 2) = 0 :=
  (by decide +kernel : ∀ t : Fin grid0.N, _)

/-- Window 4's block is its whole array at every point. -/
theorem whole4 (c : Dev nD) (t : Fin cfg0.N) : iblk m c 4 t = V m c main_v2 := by
  obtain ⟨e0, e1⟩ := index4 t
  funext j
  show V m c main_v2 (((cfg0.win 4).blk t).view.emb j) = V m c main_v2 j
  refine congrArg _ (funext fun b => Fin.ext ?_)
  match b with
  | ⟨0, _⟩ => show win0_4.index t (0 : Fin 2) * 1 + 1 * (j 0).val = (j 0).val; omega
  | ⟨1, _⟩ => show win0_4.index t (1 : Fin 2) * 16 + 1 * (j 1).val = (j 1).val; omega

theorem index5 : ∀ t : Fin cfg0.N, win0_5.index t (0 : Fin 2) = 0 ∧ win0_5.index t (1 : Fin 2) = 0 :=
  (by decide +kernel : ∀ t : Fin grid0.N, _)

/-- Window 5's block is its whole array at every point. -/
theorem whole5 (c : Dev nD) (t : Fin cfg0.N) : iblk m c 5 t = V m c main_v3 := by
  obtain ⟨e0, e1⟩ := index5 t
  funext j
  show V m c main_v3 (((cfg0.win 5).blk t).view.emb j) = V m c main_v3 j
  refine congrArg _ (funext fun b => Fin.ext ?_)
  match b with
  | ⟨0, _⟩ => show win0_5.index t (0 : Fin 2) * 1 + 1 * (j 0).val = (j 0).val; omega
  | ⟨1, _⟩ => show win0_5.index t (1 : Fin 2) * 16 + 1 * (j 1).val = (j 1).val; omega

theorem index6 : ∀ t : Fin cfg0.N, win0_6.index t (0 : Fin 2) = 0 ∧ win0_6.index t (1 : Fin 2) = 0 :=
  (by decide +kernel : ∀ t : Fin grid0.N, _)

/-- Window 6's block is its whole array at every point. -/
theorem whole6 (c : Dev nD) (t : Fin cfg0.N) : iblk m c 6 t = V m c main_v4 := by
  obtain ⟨e0, e1⟩ := index6 t
  funext j
  show V m c main_v4 (((cfg0.win 6).blk t).view.emb j) = V m c main_v4 j
  refine congrArg _ (funext fun b => Fin.ext ?_)
  match b with
  | ⟨0, _⟩ => show win0_6.index t (0 : Fin 2) * 1 + 1 * (j 0).val = (j 0).val; omega
  | ⟨1, _⟩ => show win0_6.index t (1 : Fin 2) * 1 + 1 * (j 1).val = (j 1).val; omega

theorem index7 : ∀ t : Fin cfg0.N, win0_7.index t (0 : Fin 2) = 0 ∧ win0_7.index t (1 : Fin 2) = 0 :=
  (by decide +kernel : ∀ t : Fin grid0.N, _)

/-- Window 7's block is its whole array at every point. -/
theorem whole7 (c : Dev nD) (t : Fin cfg0.N) : iblk m c 7 t = V m c main_v5 := by
  obtain ⟨e0, e1⟩ := index7 t
  funext j
  show V m c main_v5 (((cfg0.win 7).blk t).view.emb j) = V m c main_v5 j
  refine congrArg _ (funext fun b => Fin.ext ?_)
  match b with
  | ⟨0, _⟩ => show win0_7.index t (0 : Fin 2) * 16 + 1 * (j 0).val = (j 0).val; omega
  | ⟨1, _⟩ => show win0_7.index t (1 : Fin 2) * 1000 + 1 * (j 1).val = (j 1).val; omega

theorem index8 : ∀ t : Fin cfg0.N, win0_8.index t (0 : Fin 2) = 0 ∧ win0_8.index t (1 : Fin 2) = 0 :=
  (by decide +kernel : ∀ t : Fin grid0.N, _)

/-- Window 8's block is its whole array at every point. -/
theorem whole8 (c : Dev nD) (t : Fin cfg0.N) : iblk m c 8 t = V m c main_v6 := by
  obtain ⟨e0, e1⟩ := index8 t
  funext j
  show V m c main_v6 (((cfg0.win 8).blk t).view.emb j) = V m c main_v6 j
  refine congrArg _ (funext fun b => Fin.ext ?_)
  match b with
  | ⟨0, _⟩ => show win0_8.index t (0 : Fin 2) * 1 + 1 * (j 0).val = (j 0).val; omega
  | ⟨1, _⟩ => show win0_8.index t (1 : Fin 2) * 16 + 1 * (j 1).val = (j 1).val; omega

theorem index9 : ∀ t : Fin cfg0.N, win0_9.index t (0 : Fin 2) = 0 ∧ win0_9.index t (1 : Fin 2) = 0 :=
  (by decide +kernel : ∀ t : Fin grid0.N, _)

/-- Window 9's block is its whole array at every point. -/
theorem whole9 (c : Dev nD) (t : Fin cfg0.N) : iblk m c 9 t = V m c main_arg9 := by
  obtain ⟨e0, e1⟩ := index9 t
  funext j
  show V m c main_arg9 (((cfg0.win 9).blk t).view.emb j) = V m c main_arg9 j
  refine congrArg _ (funext fun b => Fin.ext ?_)
  match b with
  | ⟨0, _⟩ => show win0_9.index t (0 : Fin 2) * 16 + 1 * (j 0).val = (j 0).val; omega
  | ⟨1, _⟩ => show win0_9.index t (1 : Fin 2) * 1000 + 1 * (j 1).val = (j 1).val; omega

theorem index10 : ∀ t : Fin cfg0.N, win0_10.index t (0 : Fin 2) = 0 ∧ win0_10.index t (1 : Fin 2) = 0 :=
  (by decide +kernel : ∀ t : Fin grid0.N, _)

/-- Window 10's block is its whole array at every point. -/
theorem whole10 (c : Dev nD) (t : Fin cfg0.N) : iblk m c 10 t = V m c main_v7 := by
  obtain ⟨e0, e1⟩ := index10 t
  funext j
  show V m c main_v7 (((cfg0.win 10).blk t).view.emb j) = V m c main_v7 j
  refine congrArg _ (funext fun b => Fin.ext ?_)
  match b with
  | ⟨0, _⟩ => show win0_10.index t (0 : Fin 2) * 1 + 1 * (j 0).val = (j 0).val; omega
  | ⟨1, _⟩ => show win0_10.index t (1 : Fin 2) * 1000 + 1 * (j 1).val = (j 1).val; omega

/-! ## The blocks' entries, in the arguments -/

variable (c : Dev nD) (t : Fin cfg0.N) (i : Fin 1024)

theorem block_estimate (a : Fin 1000) :
    (iblk m c 0 t : Vec Ideal S1024x1000 .f32) (ix2 i a) = (m ((c : Thread nD τ).loc main_arg0) : FVec Ideal S16384x1000 .f32) (ix2 (row t i) a) := by
  show V m c main_arg0 (((cfg0.win 0).blk t).view.emb (ix2 i a : S1024x1000.Idx)) = _
  rw [emb0, V_main_arg0]

theorem block_action :
    (iblk m c 1 t : Vec Ideal S1024x1 .i32) (ix2 i 0) = (m ((c : Thread nD τ).loc main_arg1) : IVec S16384 32) (ix1 (row t i)) := by
  show V m c main_v0 (((cfg0.win 1).blk t).view.emb (ix2 i 0 : S1024x1.Idx)) = _
  rw [emb1]
  exact entry_action m c (row t i)

theorem block_reward :
    (iblk m c 2 t : Vec Ideal S1024x1 .f32) (ix2 i 0) = (m ((c : Thread nD τ).loc main_arg2) : FVec Ideal S16384 .f32) (ix1 (row t i)) := by
  show V m c main_v1 (((cfg0.win 2).blk t).view.emb (ix2 i 0 : S1024x1.Idx)) = _
  rw [emb2]
  exact entry_reward m c (row t i)

theorem block_rw1 (j : Fin 2) (h : Fin 16) :
    (iblk m c 3 t : Vec Ideal S2x16 .f32) (ix2 j h) = (m ((c : Thread nD τ).loc main_arg3) : FVec Ideal S2x16 .f32) (ix2 j h) := by
  rw [whole3, V_main_arg3]

theorem block_rb1 (h : Fin 16) :
    (iblk m c 4 t : Vec Ideal S1x16 .f32) (ix2 0 h) = (m ((c : Thread nD τ).loc main_arg4) : FVec Ideal S16 .f32) (ix1 h) := by
  rw [whole4]; exact entry_rb1 m c h

theorem block_rw2 (h : Fin 16) :
    (iblk m c 5 t : Vec Ideal S1x16 .f32) (ix2 0 h) = (m ((c : Thread nD τ).loc main_arg5) : FVec Ideal S16x1 .f32) (ix2 h 0) := by
  rw [whole5]; exact entry_rw2 m c h

theorem block_rb2 :
    (iblk m c 6 t : Vec Ideal S1x1 .f32) (ix2 0 0) = (m ((c : Thread nD τ).loc main_arg6) : FVec Ideal S1 .f32) (ix1 0) := by
  rw [whole6]; exact entry_rb2 m c

theorem block_aw1 (h : Fin 16) (a : Fin 1000) :
    (iblk m c 7 t : Vec Ideal S16x1000 .f32) (ix2 h a) = (m ((c : Thread nD τ).loc main_arg7) : FVec Ideal S1000x16 .f32) (ix2 a h) := by
  rw [whole7]; exact entry_aw1 m c h a

theorem block_ab1 (h : Fin 16) :
    (iblk m c 8 t : Vec Ideal S1x16 .f32) (ix2 0 h) = (m ((c : Thread nD τ).loc main_arg8) : FVec Ideal S16 .f32) (ix1 h) := by
  rw [whole8]; exact entry_ab1 m c h

theorem block_aw2 (h : Fin 16) (a : Fin 1000) :
    (iblk m c 9 t : Vec Ideal S16x1000 .f32) (ix2 h a) = (m ((c : Thread nD τ).loc main_arg9) : FVec Ideal S16x1000 .f32) (ix2 h a) := by
  rw [whole9, V_main_arg9]

theorem block_ab2 (a : Fin 1000) :
    (iblk m c 10 t : Vec Ideal S1x1000 .f32) (ix2 0 a) = (m ((c : Thread nD τ).loc main_arg10) : FVec Ideal S1000 .f32) (ix1 a) := by
  rw [whole10]; exact entry_ab2 m c a

end Cert.KernelIdeal.Entry

end
-- ==== Proof.Final.lean ====
/-
  What the kernel's four result arrays hold after the run: the arrays of `Proof.Whole` at the program's arguments. Each grid
  point writes back its rows of them, and the sixteen points' blocks cover every row.
-/
module

public import proofs.«01_k».proof.Proof.Whole
public import proofs.«01_k».proof.Proof.Block
public import proofs.«01_k».proof.Proof.Entry
public import Idealize.ShloMosaic.Lib.Pipeline.Value

@[expose] public section

set_option maxRecDepth 16384

noncomputable section

namespace Cert.KernelIdeal.Final

open Cert.KernelIdeal Cert.KernelIdeal.Gen Cert.KernelIdeal.Entry Idealize.ShloMosaic Idealize.ShloMosaic.TcCoe Idealize.SL.Sem

variable (m : (ℓ : Loc nD τ sig) → Buf (Elt Ideal) ℓ) (ρ : Dev nD → PrngReg)

/-- The kernel's arguments on device `c`. -/
abbrev args (c : Dev nD) : Whole.Args where
  q := m ((c : Thread nD τ).loc main_arg0)
  action := m ((c : Thread nD τ).loc main_arg1)
  reward := m ((c : Thread nD τ).loc main_arg2)
  rw1 := m ((c : Thread nD τ).loc main_arg3)
  rb1 := m ((c : Thread nD τ).loc main_arg4)
  rw2 := m ((c : Thread nD τ).loc main_arg5)
  rb2 := m ((c : Thread nD τ).loc main_arg6)
  aw1 := m ((c : Thread nD τ).loc main_arg7)
  ab1 := m ((c : Thread nD τ).loc main_arg8)
  aw2 := m ((c : Thread nD τ).loc main_arg9)
  ab2 := m ((c : Thread nD τ).loc main_arg10)

/-! ## The block of a grid point, in the arguments -/

variable (c : Dev nD) (t : Fin cfg0.N)

/-- Point `t`'s block of the new estimates holds those of its rows. -/
theorem point_estimate (i : Fin 1024) (a : Fin 1000) :
    out0_11 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i a) = Whole.estimateAt (args m c) (row t i) a := by
  refine (Block.out_estimate _ _ _ _ _ _ _ _ _ _ _ i a).trans ?_
  simp only [block_estimate, block_action, block_reward, block_rw1, block_rb1, block_rw2, block_rb2]
  rfl

/-- Point `t`'s block of the choice network's outputs holds those of its rows. -/
theorem point_choice (i : Fin 1024) (a : Fin 1000) :
    out0_12 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i a) = Whole.choiceAt (args m c) (row t i) a := by
  refine (Block.out_choice _ _ _ _ _ _ _ _ _ _ _ i a).trans ?_
  simp only [block_action, block_aw1, block_ab1, block_aw2, block_ab2]
  rfl

/-- Point `t`'s block of the logits holds those of its rows. -/
theorem point_logit (i : Fin 1024) (a : Fin 1000) :
    out0_13 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i a) = Whole.logitAt (args m c) (row t i) a := by
  refine (Block.out_logits _ _ _ _ _ _ _ _ _ _ _ i a).trans ?_
  rw [point_estimate, point_choice]
  rfl

/-- Point `t`'s block of the probabilities holds those of its rows. -/
theorem point_prob (i : Fin 1024) (a : Fin 1000) :
    out0_14 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i a) = Whole.probAt (args m c) (row t i) a := by
  refine (Block.out_probs _ _ _ _ _ _ _ _ _ _ _ i a).trans ?_
  simp only [point_logit]
  rfl

/-! ## The whole arrays -/

/-- Every row is the row of some place in some point's block. -/
theorem row_cover (r : Fin 16384) : ∃ (t : Fin cfg0.N) (i : Fin 1024), row t i = r := by
  have h := r.isLt
  have e : cfg0.N = 16 := N_0
  refine ⟨⟨r.val / 1024, by omega⟩, ⟨r.val % 1024, by omega⟩, Fin.ext ?_⟩
  show 1024 * (r.val / 1024) + r.val % 1024 = r.val
  omega

/-- What point `t` writes back to the array of the new estimates is its block of that array. -/
theorem flushed11 :
    (dats m 0 c).flushed 11 t = ((cfg0.win 11).blk t).view.read (Elt Ideal) (Whole.estimates (args m c)) := by
  rw [Value.flushed11]
  funext j
  obtain ⟨i, a, rfl⟩ : ∃ (i : Fin 1024) (a : Fin 1000), j = (ix2 i a : S1024x1000.Idx) := ⟨j 0, j 1, eq_ix2 j⟩
  refine (point_estimate m c t i a).trans ?_
  show _ = Whole.estimates (args m c) (((cfg0.win 11).blk t).view.emb (ix2 i a : S1024x1000.Idx))
  rw [emb11]
  rfl

/-- Every entry of that array is in some point's block. -/
theorem cover11 (i : S16384x1000.Idx) : ∃ t : Fin cfg0.N, (cfg0.win 11).flush t = true ∧ i ∈ ((cfg0.win 11).blk t).view.set := by
  obtain ⟨r, a, rfl⟩ : ∃ (r : Fin 16384) (a : Fin 1000), i = (ix2 r a : S16384x1000.Idx) := ⟨i 0, i 1, eq_ix2 i⟩
  obtain ⟨t, k, rfl⟩ := row_cover r
  refine ⟨t, flush0_11 t, ?_⟩
  rw [← emb11 t k a]
  exact View.emb_mem_set _ _

/-- So it ends holding the new estimates. -/
theorem final11 : (dats m 0 c).arrAt 11 cfg0.N = Whole.estimates (args m c) :=
  (dats m 0 c).arrAt_eq_of_cover 11 (Whole.estimates (args m c)) (fun t _ => flushed11 m c t) cover11

/-- What point `t` writes back to the array of the choice network's outputs is its block of that array. -/
theorem flushed12 :
    (dats m 0 c).flushed 12 t = ((cfg0.win 12).blk t).view.read (Elt Ideal) (Whole.choices (args m c)) := by
  rw [Value.flushed12]
  funext j
  obtain ⟨i, a, rfl⟩ : ∃ (i : Fin 1024) (a : Fin 1000), j = (ix2 i a : S1024x1000.Idx) := ⟨j 0, j 1, eq_ix2 j⟩
  refine (point_choice m c t i a).trans ?_
  show _ = Whole.choices (args m c) (((cfg0.win 12).blk t).view.emb (ix2 i a : S1024x1000.Idx))
  rw [emb12]
  rfl

/-- Every entry of that array is in some point's block. -/
theorem cover12 (i : S16384x1000.Idx) : ∃ t : Fin cfg0.N, (cfg0.win 12).flush t = true ∧ i ∈ ((cfg0.win 12).blk t).view.set := by
  obtain ⟨r, a, rfl⟩ : ∃ (r : Fin 16384) (a : Fin 1000), i = (ix2 r a : S16384x1000.Idx) := ⟨i 0, i 1, eq_ix2 i⟩
  obtain ⟨t, k, rfl⟩ := row_cover r
  refine ⟨t, flush0_12 t, ?_⟩
  rw [← emb12 t k a]
  exact View.emb_mem_set _ _

/-- So it ends holding the choice network's outputs. -/
theorem final12 : (dats m 0 c).arrAt 12 cfg0.N = Whole.choices (args m c) :=
  (dats m 0 c).arrAt_eq_of_cover 12 (Whole.choices (args m c)) (fun t _ => flushed12 m c t) cover12

/-- What point `t` writes back to the array of the logits is its block of that array. -/
theorem flushed13 :
    (dats m 0 c).flushed 13 t = ((cfg0.win 13).blk t).view.read (Elt Ideal) (Whole.logits (args m c)) := by
  rw [Value.flushed13]
  funext j
  obtain ⟨i, a, rfl⟩ : ∃ (i : Fin 1024) (a : Fin 1000), j = (ix2 i a : S1024x1000.Idx) := ⟨j 0, j 1, eq_ix2 j⟩
  refine (point_logit m c t i a).trans ?_
  show _ = Whole.logits (args m c) (((cfg0.win 13).blk t).view.emb (ix2 i a : S1024x1000.Idx))
  rw [emb13]
  rfl

/-- Every entry of that array is in some point's block. -/
theorem cover13 (i : S16384x1000.Idx) : ∃ t : Fin cfg0.N, (cfg0.win 13).flush t = true ∧ i ∈ ((cfg0.win 13).blk t).view.set := by
  obtain ⟨r, a, rfl⟩ : ∃ (r : Fin 16384) (a : Fin 1000), i = (ix2 r a : S16384x1000.Idx) := ⟨i 0, i 1, eq_ix2 i⟩
  obtain ⟨t, k, rfl⟩ := row_cover r
  refine ⟨t, flush0_13 t, ?_⟩
  rw [← emb13 t k a]
  exact View.emb_mem_set _ _

/-- So it ends holding the logits. -/
theorem final13 : (dats m 0 c).arrAt 13 cfg0.N = Whole.logits (args m c) :=
  (dats m 0 c).arrAt_eq_of_cover 13 (Whole.logits (args m c)) (fun t _ => flushed13 m c t) cover13

/-- What point `t` writes back to the array of the probabilities is its block of that array. -/
theorem flushed14 :
    (dats m 0 c).flushed 14 t = ((cfg0.win 14).blk t).view.read (Elt Ideal) (Whole.probs (args m c)) := by
  rw [Value.flushed14]
  funext j
  obtain ⟨i, a, rfl⟩ : ∃ (i : Fin 1024) (a : Fin 1000), j = (ix2 i a : S1024x1000.Idx) := ⟨j 0, j 1, eq_ix2 j⟩
  refine (point_prob m c t i a).trans ?_
  show _ = Whole.probs (args m c) (((cfg0.win 14).blk t).view.emb (ix2 i a : S1024x1000.Idx))
  rw [emb14]
  rfl

/-- Every entry of that array is in some point's block. -/
theorem cover14 (i : S16384x1000.Idx) : ∃ t : Fin cfg0.N, (cfg0.win 14).flush t = true ∧ i ∈ ((cfg0.win 14).blk t).view.set := by
  obtain ⟨r, a, rfl⟩ : ∃ (r : Fin 16384) (a : Fin 1000), i = (ix2 r a : S16384x1000.Idx) := ⟨i 0, i 1, eq_ix2 i⟩
  obtain ⟨t, k, rfl⟩ := row_cover r
  refine ⟨t, flush0_14 t, ?_⟩
  rw [← emb14 t k a]
  exact View.emb_mem_set _ _

/-- So it ends holding the probabilities. -/
theorem final14 : (dats m 0 c).arrAt 14 cfg0.N = Whole.probs (args m c) :=
  (dats m 0 c).arrAt_eq_of_cover 14 (Whole.probs (args m c)) (fun t _ => flushed14 m c t) cover14

/-- The kernel's run: the four result arrays at their functions of the arguments, the arguments unchanged. -/
theorem run : θ_run defs (onTc (τ := τ) (main (F := Ideal))) ⟨m, fun _ => 0, ρ⟩ fun r => ∀ c : Dev nD,
      r.2.mem ((c : Thread nD τ).loc main_v8_0) = Whole.estimates (args m c)
      ∧ r.2.mem ((c : Thread nD τ).loc main_v8_1) = Whole.choices (args m c)
      ∧ r.2.mem ((c : Thread nD τ).loc main_v8_2) = Whole.logits (args m c)
      ∧ r.2.mem ((c : Thread nD τ).loc main_v8_3) = Whole.probs (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2.1.trans (final13 m c),
      (h c).2.2.2.1.trans (final14 m c), (h c).2.2.2.2⟩)
    (Value.run_blocks m ρ)

end Cert.KernelIdeal.Final

end
-- ==== Proof.Place.lean ====
/-
  Where the reference's lookup reads and where its update writes.

  The lookup takes, in every row, one entry of a matrix with 16384 rows and 1000 columns, at the column a word names; the update
  replaces, for every position of a list of 16384 values, the entry of the matrix that the position's two words name, and skips
  a pair outside the matrix.
-/
module

public import proofs.«01_k».proof.Proof.Gen.ReferenceIdeal
public import Idealize.ShloMosaic.Lib.Routing.OpsSet
public import Idealize.ShloMosaic.Lib.Pointwise

@[expose] public section

set_option maxRecDepth 16384

noncomputable section

namespace Cert.ReferenceIdeal.Place

open Cert.ReferenceIdeal Cert.ReferenceIdeal.Gen Idealize.ShloMosaic

/-- The dimension numbers of the lookup. -/
abbrev lookup : GatherDims S16384x1000 S16384x1x1 S16384x1 := gather_S16384x1000_S16384x1x1_S16384x1_n_1_0_0_1_2_11
/-- The dimension numbers of the update. -/
abbrev update : ScatterDims S16384x1000 S16384x2 S16384 := scatter_S16384x1000_S16384x2_S16384_n_01_01_1

/-- The lookup's result at row `b` is the matrix at row `b`, at the column the row's word names, read signed and clamped. -/
theorem lookup_at {α : Type} (x : S16384x1000.Idx → α) (idx : IVec S16384x1x1 32) (b : Fin 16384) :
    Host.gather lookup x idx (ix2 b 0) = x (ix2 b (⟨min (idx (ix3 b 0 0)).toInt.toNat 999, by omega⟩ : Fin 1000)) := by
  unfold Host.gather
  congr 1
  funext a
  apply Fin.ext
  show lookup.start (ix2 b 0) idx a + lookup.batchCoord (ix2 b 0) a + lookup.offCoord (ix2 b 0) a = _
  have hb : (0 : Fin 2) ∈ lookup.operandBatchingDims := List.mem_singleton.mpr rfl
  have hs : (1 : Fin 2) ∈ lookup.startIndexMap := List.mem_singleton.mpr rfl
  have hn : (1 : Fin 2) ∉ lookup.operandBatchingDims := by decide
  have ha : a = (0 : Fin 2) ∨ a = (1 : Fin 2) := by
    match a with
    | ⟨0, _⟩ => exact Or.inl rfl
    | ⟨1, _⟩ => exact Or.inr rfl
  rcases ha with rfl | rfl
  · rw [GatherDims.start_batching _ _ _ _ hb, GatherDims.offCoord_eq_zero _ _ _ fun h => ((GatherDims.mem_sKept _ _).mp h).2 hb]
    simp only [Nat.zero_add, Nat.add_zero]
    unfold GatherDims.batchCoord
    rw [dif_pos hb]
    rfl
  · rw [GatherDims.batchCoord_eq_zero _ _ _ hn,
      GatherDims.offCoord_eq_zero _ _ _ fun h => ((GatherDims.mem_sKept _ _).mp h).1 (List.mem_singleton.mpr rfl)]
    simp only [Nat.add_zero]
    unfold GatherDims.start
    rw [dif_pos hs]
    have hi : lookup.siIdx (ix2 b 0) ⟨List.idxOf (1 : Fin 2) lookup.startIndexMap, List.idxOf_lt_length_iff.2 hs⟩ = ix3 b 0 0 := by
      funext q; apply Fin.ext
      match q with
      | ⟨0, _⟩ => rfl
      | ⟨1, _⟩ => rfl
      | ⟨2, _⟩ => rfl
    rw [hi]
    rfl

/-- Position `k` of the update writes at row `r` and column `c` exactly when its two words, read signed, are `r` and `c`. -/
theorem writes_at (idx : IVec S16384x2 32) (k r : Fin 16384) (c : Fin 1000) :
    update.resultIdx? (ix1 k) idx = some (ix2 r c) ↔ (idx (ix2 k 0)).toInt = r.val ∧ (idx (ix2 k 1)).toInt = c.val := by
  have hm : ∀ q : Fin 2, q ∈ update.scatterDimsToOperandDims := by decide
  have hwin : ∀ q : Fin 2, update.window (ix1 k) q = 0 := fun q => by
    unfold ScatterDims.window
    rw [dif_neg fun h => (of_decide_eq_true (List.mem_filter.1 h).2) (by fin_cases q <;> simp [scatter_S16384x1000_S16384x2_S16384_n_01_01_1])]
  have hstart : ∀ q : Fin 2, update.start (ix1 k) idx q = (idx (ix2 k q)).toInt := fun q => by
    unfold ScatterDims.start
    rw [dif_pos (hm q)]
    refine congrArg (fun i => (idx i).toInt) ?_
    funext b; apply Fin.ext
    match b with
    | ⟨0, _⟩ => rfl
    | ⟨1, _⟩ => fin_cases q <;> rfl
  rw [Routing.resultIdx?_eq_some]
  constructor
  · intro h
    have h0 := h 0
    have h1 := h 1
    rw [hstart, hwin] at h0 h1
    exact ⟨by simpa using h0, by simpa using h1⟩
  · intro h a
    rw [hstart, hwin]
    match a with
    | ⟨0, _⟩ => simpa using h.1
    | ⟨1, _⟩ => simpa using h.2

/-- Where position `b`'s first word is always `b`, the update leaves at row `b` and column `a` position `b`'s value if its second
    word, read signed, is `a`, and otherwise what was there. -/
theorem update_at {α : Type} (x : S16384x1000.Idx → α) (idx : IVec S16384x2 32) (v : S16384.Idx → α)
    (h0 : ∀ b : Fin 16384, (idx (ix2 b 0)).toInt = b.val) (b : Fin 16384) (a : Fin 1000) :
    Host.scatter update (fun _ w => w) x idx v (ix2 b a) = if (idx (ix2 b 1)).toInt = a.val then v (ix1 b) else x (ix2 b a) := by
  have only : ∀ k : S16384.Idx, update.resultIdx? k idx = some (ix2 b a) → k = ix1 b ∧ (idx (ix2 b 1)).toInt = a.val := by
    intro k hk
    obtain ⟨k, rfl⟩ : ∃ k' : Fin 16384, k = ix1 k' := ⟨k 0, eq_ix1 k⟩
    obtain ⟨e0, e1⟩ := (writes_at idx k b a).1 hk
    rw [h0] at e0
    obtain rfl : k = b := Fin.ext (by exact_mod_cast e0)
    exact ⟨rfl, e1⟩
  split
  · next h => exact Routing.scatter_set_hit update x idx v _ _ (fun k hk => by rw [(only k hk).1]) (ix1 b) ((writes_at idx b b a).2 ⟨h0 b, h⟩)
  · next h => exact Routing.scatter_set_miss update x idx v _ (fun k hk => h (only k hk).2)

end Cert.ReferenceIdeal.Place

end
-- ==== Proof.Lookup.lean ====
/-
  The reference's new estimates, read at one row and one action.

  The reference looks up the chosen estimate of every row, runs the reward network on it and writes the result back over the
  decayed estimates. Where the previous action is not negative, the entry at row `b` and action `a` is `Row.estimate`'s: if the
  action is one of the 1000, the lookup is inside the row and the write lands on it; if it is not, the write is skipped.
-/
module

public import proofs.«01_k».proof.Proof.Place
public import proofs.«01_k».proof.Proof.Whole
public import Idealize.ShloMosaic.Lib.WordCmp

@[expose] public section

set_option maxRecDepth 16384

noncomputable section

namespace Cert.ReferenceIdeal.Lookup

open Cert.ReferenceIdeal Cert.ReferenceIdeal.Gen Idealize.ShloMosaic

/-! ## The words -/

/-- The column to look up in each row: the previous action, 1000 added if it is negative. -/
def column (k : IVec S16384 32) : IVec S16384x1x1 32 :=
  shapeCast _
    (select (cmpi .slt (broadcastInDim S16384x1 ![0] bcast_S16384_S16384x1_0 k) (broadcastInDim S16384x1 ![] bcast_S_S16384x1 (constantI S_ 32 0#32)))
      (addi (broadcastInDim S16384x1 ![0] bcast_S16384_S16384x1_0 k) (broadcastInDim S16384x1 ![] bcast_S_S16384x1 (constantI S_ 32 1000#32)))
      (broadcastInDim S16384x1 ![0] bcast_S16384_S16384x1_0 k))
    shapeCasts_S16384x1_S16384x1x1

/-- Whether the column to look up is one of the 1000. -/
def inside (k : IVec S16384 32) : IVec S16384x1 1 :=
  Host.reduce IntOp.andi
    (andi (cmpi .sge (column k) (broadcastInDim S16384x1x1 ![] bcast_S_S16384x1x1 (constantI S_ 32 0#32)))
      (cmpi .sle (column k)
        (broadcastInDim S16384x1x1 ![0, 1, 2] bcast_S1x1x1_S16384x1x1_0_1_2 (broadcastInDim S1x1x1 ![2] bcast_S1_S1x1x1_2 (constantI S1 32 999#32)))))
    (constantI S_ 1 1#1) reducesTo_S16384x1x1_S16384x1_d2 h_S_

/-- The row and the column each position of the update writes at. -/
def target (k : IVec S16384 32) : IVec S16384x2 32 :=
  concatenate S16384x2 1
    [⟨S16384x1, broadcastInDim S16384x1 ![0] bcast_S16384_S16384x1_0
        (select (cmpi .slt (iotaInDim S16384 32 0) (broadcastInDim S16384 ![] bcast_S_S16384 (constantI S_ 32 0#32)))
          (addi (iotaInDim S16384 32 0) (broadcastInDim S16384 ![] bcast_S_S16384 (constantI S_ 32 16384#32))) (iotaInDim S16384 32 0))⟩,
      ⟨S16384x1, broadcastInDim S16384x1 ![0] bcast_S16384_S16384x1_0
        (select (cmpi .slt k (broadcastInDim S16384 ![] bcast_S_S16384 (constantI S_ 32 0#32)))
          (addi k (broadcastInDim S16384 ![] bcast_S_S16384 (constantI S_ 32 1000#32))) k)⟩]
    concatenates_S16384x1_S16384x1_S16384x2_d1

/-- A previous action that is not negative is the column to look up. -/
theorem column_at (k : IVec S16384 32) (b : Fin 16384) (h : (k (ix1 b)).toNat < 2 ^ 31) (z : Fin 1) :
    column k (ix3 b 0 z) = k (ix1 b) := by
  obtain rfl : z = 0 := Subsingleton.elim _ _
  pointwise [column]
  exact Routing.wrap_of_lt _ _ h

/-- A previous action that is one of the 1000 is inside. -/
theorem inside_at (k : IVec S16384 32) (b : Fin 16384) (a : Fin 1000) (h : k (ix1 b) = BitVec.ofNat 32 a.val) :
    inside k (ix2 b 0) = 1#1 := by
  have ha := a.isLt
  have hn : (k (ix1 b)).toNat < 2 ^ 31 := by
    rw [h, WordCmp.toNat_ofNat_of_lt (by omega)]
    omega
  pointwise [inside]
  simp only [column_at k b hn, h]
  rw [WordCmp.cmpi_sge_ofNat (by omega) (by omega), WordCmp.cmpi_sle_ofNat (by omega) (by omega), decide_eq_true (by omega),
    decide_eq_true (by omega)]
  rfl

/-- Position `b` of the update writes in row `b`. -/
theorem target_row (k : IVec S16384 32) (b : Fin 16384) : (target k (ix2 b 0)).toInt = b.val := by
  have hb := b.isLt
  have e : target k (ix2 b 0) = BitVec.ofNat 32 b.val := by
    pointwise [target]
    refine Routing.wrap_of_lt _ _ ?_
    rw [WordCmp.toNat_ofNat_of_lt (by omega)]
    omega
  rw [e, WordCmp.toInt_ofNat_of_lt (by omega)]

/-- It writes at the column its previous action names, if that is not negative. -/
theorem target_column (k : IVec S16384 32) (b : Fin 16384) (h : (k (ix1 b)).toNat < 2 ^ 31) : target k (ix2 b 1) = k (ix1 b) := by
  pointwise [target]
  exact Routing.wrap_of_lt _ _ h

/-- A word that is not negative, read signed, is `a` exactly when it is the word of `a`. -/
theorem word_iff (x : BitVec 32) (h : x.toNat < 2 ^ 31) (a : Fin 1000) : x.toInt = a.val ↔ x = BitVec.ofNat 32 a.val := by
  have ha := a.isLt
  rw [WordCmp.toInt_eq_toNat_of_lt_half h]
  constructor
  · intro e
    apply BitVec.eq_of_toNat_eq
    rw [WordCmp.toNat_ofNat_of_lt (by omega)]
    exact_mod_cast e
  · intro e
    rw [e, WordCmp.toNat_ofNat_of_lt (by omega)]

/-! ## The numbers -/

variable (x : Whole.Args)

/-- The chosen estimate of each row. -/
def chosen : FVec Ideal S16384x1 .f32 :=
  select (inside x.action) (Host.gather gather_S16384x1000_S16384x1x1_S16384x1_n_1_0_0_1_2_11 x.q (column x.action))
    (broadcastInDim S16384x1 ![] bcast_S_S16384x1 (constant S_ .f32 0x7FC00000#32))

/-- The reward network's output for each row, given its chosen estimates. -/
def network (g : FVec Ideal S16384x1 .f32) : FVec Ideal S16384 .f32 :=
  shapeCast _
    (addf
      (Host.dotGeneral dot_S16384x16_S16x1_S16384x1_1_0_0_1_n_n none
        (Host.tanh
          (addf
            (Host.dotGeneral dot_S16384x2_S2x16_S16384x16_1_0_0_1_n_n none
              (concatenate S16384x2 1
                [⟨S16384x1, broadcastInDim S16384x1 ![0] bcast_S16384_S16384x1_0 (shapeCast _ g shapeCasts_S16384x1_S16384)⟩,
                  ⟨S16384x1, broadcastInDim S16384x1 ![0] bcast_S16384_S16384x1_0 x.reward⟩]
                concatenates_S16384x1_S16384x1_S16384x2_d1)
              x.rw1)
            (broadcastInDim S16384x16 ![0, 1] bcast_S1x16_S16384x16_0_1 (broadcastInDim S1x16 ![1] bcast_S16_S1x16_1 x.rb1))))
        x.rw2)
      (broadcastInDim S16384x1 ![0, 1] bcast_S1x1_S16384x1_0_1 (broadcastInDim S1x1 ![1] bcast_S1_S1x1_1 x.rb2)))
    shapeCasts_S16384x1_S16384

/-- The decayed estimates. -/
def decayed : FVec Ideal S16384x1000 .f32 :=
  addf (mulf (broadcastInDim S16384x1000 ![] bcast_S_S16384x1000 (constant S_ .f32 0x3F733333#32)) x.q)
    (broadcastInDim S16384x1000 ![] bcast_S_S16384x1000 (constant S_ .f32 0x3CCCCCCD#32))

/-- The new estimates: the network's outputs written over the decayed estimates. -/
def estimates : FVec Ideal S16384x1000 .f32 :=
  Host.scatter scatter_S16384x1000_S16384x2_S16384_n_01_01_1 (fun _ b => b) (decayed x) (target x.action) (network x (chosen x))

/-- Where the previous action is one of the 1000, the chosen estimate is the row's estimate of it. -/
theorem chosen_at (b : Fin 16384) (a : Fin 1000) (h : x.action (ix1 b) = BitVec.ofNat 32 a.val) : chosen x (ix2 b 0) = x.q (ix2 b a) := by
  have ha := a.isLt
  have hn : (x.action (ix1 b)).toNat < 2 ^ 31 := by
    rw [h, WordCmp.toNat_ofNat_of_lt (by omega)]
    omega
  unfold chosen
  rw [ValueIdx.select_apply, inside_at x.action b a h, Scalar.select, if_pos (show (1#1 : BitVec 1) = 1 from rfl)]
  refine (Place.lookup_at x.q (column x.action) b).trans ?_
  have e : (⟨min (column x.action (ix3 b 0 0)).toInt.toNat 999, by omega⟩ : Fin 1000) = a := by
    apply Fin.ext
    show min (column x.action (ix3 b 0 0)).toInt.toNat 999 = a.val
    rw [column_at x.action b hn 0, h, WordCmp.toInt_ofNat_of_lt (by omega)]
    omega
  rw [e]

/-- The network's output for row `b` is the reward network's on the row's chosen estimate and reward. -/
theorem network_at (g : FVec Ideal S16384x1 .f32) (b : Fin 16384) :
    network x g (ix1 b) = Row.updated (fun j h => x.rw1 (ix2 j h)) (fun h => x.rb1 (ix1 h)) (fun h => x.rw2 (ix2 h 0)) (x.rb2 (ix1 0))
      (g (ix2 b 0)) (x.reward (ix1 b)) := by
  pointwise [network, Row.updated]
  simp only [Finset.univ_unique, Finset.sum_singleton]

/-- The decayed estimate at row `b` and action `a`. -/
theorem decayed_at (b : Fin 16384) (a : Fin 1000) : decayed x (ix2 b a) = Row.keep * x.q (ix2 b a) + Row.drift := by
  pointwise [decayed]

/-- The new estimate at row `b` and action `a`, where the row's previous action is not negative. -/
theorem estimates_at (b : Fin 16384) (a : Fin 1000) (h : (x.action (ix1 b)).toNat < 2 ^ 31) :
    estimates x (ix2 b a) = Whole.estimateAt x b a := by
  refine (Place.update_at (decayed x) (target x.action) (network x (chosen x)) (target_row x.action) b a).trans ?_
  rw [target_column x.action b h]
  unfold Whole.estimateAt Row.estimate
  by_cases e : x.action (ix1 b) = BitVec.ofNat 32 a.val
  · rw [if_pos ((word_iff _ h a).2 e), if_pos e, network_at, chosen_at x b a e]
  · rw [if_neg fun q => e ((word_iff _ h a).1 q), if_neg e, decayed_at]

end Cert.ReferenceIdeal.Lookup

end
-- ==== Proof.Reference.lean ====
/-
  The reference's four results: where no previous action is negative, they are the arrays of `Proof.Whole` at the program's
  arguments.
-/
module

public import proofs.«01_k».proof.Proof.Lookup
public import proofs.«01_k».proof.Proof.Gen.ReferenceIdeal.Run

@[expose] public section

set_option maxRecDepth 16384

noncomputable section

namespace Cert.ReferenceIdeal.Results

open Cert.ReferenceIdeal Cert.ReferenceIdeal.Gen Idealize.ShloMosaic Idealize.ShloMosaic.TcCoe Idealize.SL.Sem

variable (x : Whole.Args)

/-- The choice network's outputs, from the one-hot vectors of the previous actions. -/
def choices : FVec Ideal S16384x1000 .f32 :=
  addf
    (Host.dotGeneral dot_S16384x16_S16x1000_S16384x1000_1_0_0_1_n_n none
      (Host.tanh
        (addf
          (Host.dotGeneral dot_S16384x1000_S1000x16_S16384x16_1_0_0_1_n_n none
            (uitofp .f32
              (cmpi .eq
                (broadcastInDim S16384x1000 ![0, 1] bcast_S16384x1_S16384x1000_0_1 (broadcastInDim S16384x1 ![0] bcast_S16384_S16384x1_0 x.action))
                (broadcastInDim S16384x1000 ![0, 1] bcast_S1x1000_S16384x1000_0_1 (iotaInDim S1x1000 32 1))))
            x.aw1)
          (broadcastInDim S16384x16 ![0, 1] bcast_S1x16_S16384x16_0_1 (broadcastInDim S1x16 ![1] bcast_S16_S1x16_1 x.ab1))))
      x.aw2)
    (broadcastInDim S16384x1000 ![0, 1] bcast_S1x1000_S16384x1000_0_1 (broadcastInDim S1x1000 ![1] bcast_S1000_S1x1000_1 x.ab2))

/-- The greatest entry of every row. -/
def greatest (z : FVec Ideal S16384x1000 .f32) : FVec Ideal S16384 .f32 :=
  Host.reduce FloatOps.maximumf z (constant S_ .f32 0xFF800000#32) reducesTo_S16384x1000_S16384_d1 h_S_

/-- The exponentials of the entries less what `g` has for their row. -/
def powersFrom (z : FVec Ideal S16384x1000 .f32) (g : FVec Ideal S16384 .f32) : FVec Ideal S16384x1000 .f32 :=
  Host.exp
    (subf z
      (broadcastInDim S16384x1000 ![0, 1] bcast_S16384x1_S16384x1000_0_1
        (broadcastInDim S16384x1 ![0] bcast_S16384_S16384x1_0
          (maximumf (broadcastInDim S16384 ![] bcast_S_S16384 (constant S_ .f32 0xFF800000#32)) g))))

/-- The exponentials of the entries less their row's greatest. -/
def powers (z : FVec Ideal S16384x1000 .f32) : FVec Ideal S16384x1000 .f32 := powersFrom z (greatest z)

/-- The rows of `e`, each divided by its sum. -/
def shares (e : FVec Ideal S16384x1000 .f32) : FVec Ideal S16384x1000 .f32 :=
  Host.divf e
    (broadcastInDim S16384x1000 ![0, 1] bcast_S16384x1_S16384x1000_0_1
      (broadcastInDim S16384x1 ![0] bcast_S16384_S16384x1_0
        (Host.reduceAdd e (constant S_ .f32 0x00000000#32) reducesTo_S16384x1000_S16384_d1 h_S_)))

/-- The softmax of every row. -/
def probs (z : FVec Ideal S16384x1000 .f32) : FVec Ideal S16384x1000 .f32 := shares (powers z)

/-- The choice network's output at row `b` and action `a`. -/
theorem choices_at (b : Fin 16384) (a : Fin 1000) : choices x (ix2 b a) = Whole.choiceAt x b a := by
  unfold Whole.choiceAt Row.choice Row.oneHot
  pointwise [choices]
  simp only [Row.unsigned_pick]

/-- The greatest entry of row `b`. -/
theorem greatest_at (z : FVec Ideal S16384x1000 .f32) (b : Fin 16384) : greatest z (ix1 b) = Row.top fun a => z (ix2 b a) := by
  unfold greatest Row.top
  simp only [pointwise]
  rw [Row.lowest]

/-- The exponential at row `b` and action `a`, of the entry less what `g` has for the row: the maximum with the least value leaves
    that as it is. -/
theorem powersFrom_at (z : FVec Ideal S16384x1000 .f32) (g : FVec Ideal S16384 .f32) (b : Fin 16384) (a : Fin 1000) :
    powersFrom z g (ix2 b a) = Ideal.exp (z (ix2 b a) - g (ix1 b)) := by
  pointwise [powersFrom]
  simp only [Row.lowest]
  rw [max_eq_right bot_le]

/-- The exponential at row `b` and action `a`. -/
theorem powers_at (z : FVec Ideal S16384x1000 .f32) (b : Fin 16384) (a : Fin 1000) :
    powers z (ix2 b a) = Ideal.exp (z (ix2 b a) - Row.top fun a' => z (ix2 b a')) := by
  rw [powers, powersFrom_at, greatest_at]

/-- The share of action `a` in row `b`. -/
theorem shares_at (e : FVec Ideal S16384x1000 .f32) (b : Fin 16384) (a : Fin 1000) :
    shares e (ix2 b a) = Ideal.div (e (ix2 b a)) (∑ a' : Fin 1000, e (ix2 b a')) := by
  pointwise [shares]

/-- The softmax at row `b` and action `a` is that of the row. -/
theorem probs_at (z : FVec Ideal S16384x1000 .f32) (b : Fin 16384) (a : Fin 1000) :
    probs z (ix2 b a) = Row.softmax (fun a' => z (ix2 b a')) a := by
  rw [probs, shares_at, Row.softmax]
  simp only [powers_at]

/-! ## The whole arrays -/

/-- The new estimates. -/
theorem estimates_eq (h : ∀ b : Fin 16384, (x.action (ix1 b)).toNat < 2 ^ 31) : Lookup.estimates x = Whole.estimates x := by
  funext j
  obtain ⟨b, a, rfl⟩ : ∃ (b : Fin 16384) (a : Fin 1000), j = (ix2 b a : S16384x1000.Idx) := ⟨j 0, j 1, eq_ix2 j⟩
  exact Lookup.estimates_at x b a (h b)

/-- The choice network's outputs. -/
theorem choices_eq : choices x = Whole.choices x := by
  funext j
  obtain ⟨b, a, rfl⟩ : ∃ (b : Fin 16384) (a : Fin 1000), j = (ix2 b a : S16384x1000.Idx) := ⟨j 0, j 1, eq_ix2 j⟩
  exact choices_at x b a

/-- The logits. -/
theorem logits_eq : addf (Whole.estimates x) (Whole.choices x) = Whole.logits x := rfl

/-- The probabilities. -/
theorem probs_eq : probs (Whole.logits x) = Whole.probs x := by
  funext j
  obtain ⟨b, a, rfl⟩ : ∃ (b : Fin 16384) (a : Fin 1000), j = (ix2 b a : S16384x1000.Idx) := ⟨j 0, j 1, eq_ix2 j⟩
  exact probs_at (Whole.logits x) b a

/-! ## The run -/

variable (m : (ℓ : Loc nD τ sig) → Buf (Elt Ideal) ℓ) (ρ : Dev nD → PrngReg)

/-- The reference's arguments on device `c`. -/
abbrev args (c : Dev nD) : Whole.Args where
  q := m ((c : Thread nD τ).loc main_arg0)
  action := m ((c : Thread nD τ).loc main_arg1)
  reward := m ((c : Thread nD τ).loc main_arg2)
  rw1 := m ((c : Thread nD τ).loc main_arg3)
  rb1 := m ((c : Thread nD τ).loc main_arg4)
  rw2 := m ((c : Thread nD τ).loc main_arg5)
  rb2 := m ((c : Thread nD τ).loc main_arg6)
  aw1 := m ((c : Thread nD τ).loc main_arg7)
  ab1 := m ((c : Thread nD τ).loc main_arg8)
  aw2 := m ((c : Thread nD τ).loc main_arg9)
  ab2 := m ((c : Thread nD τ).loc main_arg10)

/-- The reference's logits are its new estimates plus its choice network's outputs. -/
theorem logits_run (c : Dev nD) : Value.res_main_v45 m c = addf (Lookup.estimates (args m c)) (choices (args m c)) := rfl

/-- The reference's probabilities are the softmax of them. -/
theorem probs_run (c : Dev nD) : Value.res_main_v56 m c = probs (addf (Lookup.estimates (args m c)) (choices (args m c))) := rfl

/-- The reference's run where no previous action is negative: the four results at their functions of the arguments, the arguments
    unchanged. -/
theorem run (h : ∀ (c : Dev nD) (b : Fin 16384), ((args m c).action (ix1 b)).toNat < 2 ^ 31) :
    θ_run defs (onTc (τ := τ) (main (F := Ideal))) ⟨m, fun _ => 0, ρ⟩ fun r => ∀ c : Dev nD,
      r.2.mem ((c : Thread nD τ).loc main_v34) = Whole.estimates (args m c)
      ∧ r.2.mem ((c : Thread nD τ).loc main_v44) = Whole.choices (args m c)
      ∧ r.2.mem ((c : Thread nD τ).loc main_v45) = Whole.logits (args m c)
      ∧ r.2.mem ((c : Thread nD τ).loc main_v56) = Whole.probs (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r g c => by
      have e := estimates_eq (args m c) (h c)
      have k := choices_eq (args m c)
      refine ⟨(g c).1.trans e, (g c).2.1.trans k, (g c).2.2.1.trans ?_, (g c).2.2.2.1.trans ?_, (g c).2.2.2.2⟩
      · rw [logits_run, e, k, logits_eq]
      · rw [probs_run, e, k, logits_eq, probs_eq])
    (Value.run m ρ)

end Cert.ReferenceIdeal.Results

end
-- ==== Proof.lean ====
/-
  The certificate: the kernel and its idealization run to the end, leave their arguments as they were and every semaphore at
  zero, and so does the reference; the idealization rewrote nothing; and where no previous action is negative, the
  kernel's four results are the reference's. `Proof.Row` states the mathematics of one row, `Proof.Block`, `Proof.Entry` and
  `Proof.Final` prove that the kernel computes it, `Proof.Place`, `Proof.Lookup` and `Proof.Reference` that the reference does.
-/
module

public import proofs.«01_k».proof.Defs
public import proofs.«01_k».proof.Proof.Gen.Kernel.Frame
public import proofs.«01_k».proof.Proof.Gen.KernelIdeal.Frame
public import proofs.«01_k».proof.Proof.Gen.Pre_action_nonneg
public import proofs.«01_k».proof.Proof.Final
public import proofs.«01_k».proof.Proof.Reference
public import Idealize.ShloMosaic.Lib.Quiescent

@[expose] public section

set_option maxRecDepth 16384

noncomputable section

namespace Cert.Proof

open Idealize.ShloMosaic Idealize.ShloMosaic.TcCoe Idealize.SL.Sem

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The idealized kernel's frame on the inputs of the value claim. -/
theorem frame_ideal_pre : Cert.quiescent_KernelIdeal_pre_action_nonneg := fun m ρ _ => Cert.KernelIdeal.Gen.frame m ρ

/-- The reference's frame: it declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference's frame on the inputs of the value claim. -/
theorem frame_reference_pre : Cert.quiescent_ReferenceIdeal_pre_action_nonneg := fun m ρ _ => frame_reference m ρ trivial

/-- The idealization rewrote nothing. -/
theorem preserves : Cert.preserves_Kernel_KernelIdeal := trivial

/-- The precondition says of every row that its previous action, as a word, is below the sign bit. -/
theorem nonneg (m : (ℓ : Loc Cert.KernelIdeal.nD Cert.KernelIdeal.τ Cert.KernelIdeal.sig) → Buf (Elt Ideal) ℓ)
    (h : Cert.Pre_KernelIdeal_action_nonneg m) (c : Dev Cert.KernelIdeal.nD) (b : Fin 16384) :
    ((Cert.KernelIdeal.Final.args m c).action (ix1 b)).toNat < 2 ^ 31 := by
  have e : IntOp.cmpi .sge ((Cert.KernelIdeal.Final.args m c).action (ix1 b)) 0#32 = 1#1 := congrFun (h c) (ix1 b)
  rw [WordCmp.cmpi_sge_zero, WordCmp.ofBool_decide_eq_one_iff] at e
  exact e

/-- Where no previous action is negative, the idealized kernel's four results are the reference's. -/
theorem algebraic : Cert.algebraic_KernelIdeal_ReferenceIdeal_pre_action_nonneg := by
  intro m ρ m' ρ' hpre hagree
  have e : ∀ c, Cert.ReferenceIdeal.Results.args m' c = Cert.KernelIdeal.Final.args m c := fun c => by
    obtain ⟨h0, h1, h2, h3, h4, h5, h6, h7, h8, h9, h10⟩ := hagree c
    unfold Cert.ReferenceIdeal.Results.args Cert.KernelIdeal.Final.args
    congr 1
  refine ⟨fun c => Whole.estimates (Cert.KernelIdeal.Final.args m c), fun c => Whole.choices (Cert.KernelIdeal.Final.args m c),
    fun c => Whole.logits (Cert.KernelIdeal.Final.args m c), fun c => Whole.probs (Cert.KernelIdeal.Final.args m c),
    Cert.KernelIdeal.Final.run m ρ, ?_⟩
  refine (θ_run Cert.ReferenceIdeal.defs _ _).mono (fun r g c => ?_)
    (Cert.ReferenceIdeal.Results.run m' ρ' fun c b => by rw [e c]; exact nonneg m hpre c b)
  have k := g c
  rw [e c] at k
  exact k

/-- All that is claimed. -/
theorem claim : Cert.Claim :=
  ⟨Cert.Kernel.Gen.facts, Cert.KernelIdeal.Gen.facts, Cert.ReferenceIdeal.Gen.facts, Cert.Pre_action_nonneg.Gen.facts,
    frame_kernel, frame_ideal, frame_ideal_pre, frame_reference, frame_reference_pre, preserves, algebraic⟩

end Cert.Proof

end
